-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x3584 : Shape := ⟨3, ![16, 1024, 3584]⟩
abbrev S16x8x28 : Shape := ⟨3, ![16, 8, 28]⟩
abbrev S16x64x3584 : Shape := ⟨3, ![16, 64, 3584]⟩
abbrev S16x1024x64 : Shape := ⟨3, ![16, 1024, 64]⟩
abbrev S1x1024x3584 : Shape := ⟨3, ![1, 1024, 3584]⟩
abbrev S1x8x28 : Shape := ⟨3, ![1, 8, 28]⟩
abbrev S1x64x3584 : Shape := ⟨3, ![1, 64, 3584]⟩
abbrev S1x1024x64 : Shape := ⟨3, ![1, 1024, 64]⟩
abbrev S128x256 : Shape := ⟨2, ![128, 256]⟩
abbrev S128x3584 : Shape := ⟨2, ![128, 3584]⟩
abbrev S256x128 : Shape := ⟨2, ![256, 128]⟩
abbrev S32x128 : Shape := ⟨2, ![32, 128]⟩
abbrev S1x128x64 : Shape := ⟨3, ![1, 128, 64]⟩
abbrev S128x64 : Shape := ⟨2, ![128, 64]⟩
abbrev S128x192 : Shape := ⟨2, ![128, 192]⟩
abbrev S1x128x256 : Shape := ⟨3, ![1, 128, 256]⟩
abbrev S1x1x1 : Shape := ⟨3, ![1, 1, 1]⟩
abbrev S128x128 : Shape := ⟨2, ![128, 128]⟩
abbrev S1x64x256 : Shape := ⟨3, ![1, 64, 256]⟩
abbrev S64x256 : Shape := ⟨2, ![64, 256]⟩
abbrev S192x256 : Shape := ⟨2, ![192, 256]⟩
abbrev S16x8x128 : Shape := ⟨3, ![16, 8, 128]⟩
abbrev S8x128 : Shape := ⟨2, ![8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S1x28 : Shape := ⟨2, ![1, 28]⟩
abbrev S1x1x28 : Shape := ⟨3, ![1, 1, 28]⟩
abbrev S1x128x128 : Shape := ⟨3, ![1, 128, 128]⟩

abbrev nBuf : Space → Nat
  | .hbm => 6
  | .vmem => 18
  | .smem => 2
  | _ => 0

abbrev bufTy : (tb : Table) → Fin (tcTables nBuf tb) → BufTy
  | .hbm, ⟨0, _⟩ => ⟨S16x1024x3584, .fp8e4m3⟩
  | .hbm, ⟨1, _⟩ => ⟨S16x8x28, .f32⟩
  | .hbm, ⟨2, _⟩ => ⟨S16x64x3584, .bf16⟩
  | .hbm, ⟨3, _⟩ => ⟨S16x1024x64, .bf16⟩
  | .hbm, ⟨4, _⟩ => ⟨S16x1024x3584, .fp8e4m3⟩
  | .hbm, ⟨5, _⟩ => ⟨S16x8x28, .f32⟩
  | .local _ .vmem, ⟨0, _⟩ => ⟨S1x1024x3584, .fp8e4m3⟩
  | .local _ .vmem, ⟨1, _⟩ => ⟨S1x1024x3584, .fp8e4m3⟩
  | .local _ .vmem, ⟨2, _⟩ => ⟨S1x64x3584, .bf16⟩
  | .local _ .vmem, ⟨3, _⟩ => ⟨S1x64x3584, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x3584, .fp8e4m3⟩
  | .local _ .vmem, ⟨7, _⟩ => ⟨S1x1024x3584, .fp8e4m3⟩
  | .local _ .vmem, ⟨8, _⟩ => ⟨S1x8x28, .f32⟩
  | .local _ .vmem, ⟨9, _⟩ => ⟨S1x8x28, .f32⟩
  | .local _ .vmem, ⟨10, _⟩ => ⟨S128x256, .bf16⟩
  | .local _ .vmem, ⟨11, _⟩ => ⟨S128x256, .bf16⟩
  | .local _ .vmem, ⟨12, _⟩ => ⟨S128x3584, .f32⟩
  | .local _ .vmem, ⟨13, _⟩ => ⟨S128x3584, .f32⟩
  | .local _ .vmem, ⟨14, _⟩ => ⟨S256x128, .f32⟩
  | .local _ .vmem, ⟨15, _⟩ => ⟨S256x128, .f32⟩
  | .local _ .vmem, ⟨16, _⟩ => ⟨S32x128, .f32⟩
  | .local _ .vmem, ⟨17, _⟩ => ⟨S32x128, .f32⟩
  | .local _ .smem, ⟨0, _⟩ => ⟨S1x8x28, .f32⟩
  | .local _ .smem, ⟨1, _⟩ => ⟨S1x8x28, .f32⟩
  | _, _ => ⟨S16x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg1_0 : Ref sig .tc := ⟨.smem, 0, rfl⟩
abbrev cc0_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  c0_i32
@[reducible] def k0_t1_loop : Scf.Loop 32 :=
  let c0_i32_396 : BitVec 32 := 0#32
  let c3_i32 : BitVec 32 := 3#32
  let v973 : BitVec 32 := Scalar.addi c0_i32_396 c3_i32
  let c1_i32_397 : BitVec 32 := 1#32
  ⟨c0_i32_396, v973, c1_i32_397⟩
def k0_mult2 (k0_t1 : Fin k0_t1_loop.trips) : BitVec 32 :=
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_1319 : BitVec 32 := 1#32
  let v2655 : BitVec 32 := Scalar.addi v2654 c1_i32_1319
  let c128_i32_1320 : BitVec 32 := 128#32
  let v2656 : BitVec 32 := Scalar.muli v2655 c128_i32_1320
  v2656
def k0_off1 (k0_t1 : Fin k0_t1_loop.trips) (c1_i32_1319 : BitVec 32) : Fin 3 → Nat :=
  let c0_1321 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2658 : Index := Scalar.indexCast v2657
  let c0_1322 : Index := 0#32
  ![0, v2658.toNat, 0]
def k0_off2 (k0_t1 : Fin k0_t1_loop.trips) (c1_i32_1319 : BitVec 32) : Fin 3 → Nat :=
  let c0_1327 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2665 : Index := Scalar.indexCast v2657
  let c0_1328 : Index := 0#32
  ![0, v2665.toNat, 0]
def k0_off3 (k0_t1 : Fin k0_t1_loop.trips) (c1_i32_1319 : BitVec 32) : Fin 3 → Nat :=
  let c0_1329 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2669 : Index := Scalar.indexCast v2655
  let c0_1330 : Index := 0#32
  ![0, v2669.toNat, 0]
def k0_off4 (k0_t1 : Fin k0_t1_loop.trips) (c1_i32_1319 : BitVec 32) : Fin 3 → Nat :=
  let c0_1331 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2675 : Index := Scalar.indexCast v2655
  let c1_1332 : Index := 1#32
  ![0, v2675.toNat, 1]
def k0_off5 (k0_t1 : Fin k0_t1_loop.trips) (c1_i32_1319 : BitVec 32) : Fin 3 → Nat :=
  let c0_1345 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2703 : Index := Scalar.indexCast v2657
  let c256_1346 : Index := 256#32
  ![0, v2703.toNat, 256]
def k0_off6 (k0_t1 : Fin k0_t1_loop.trips) (c1_i32_1319 : BitVec 32) : Fin 3 → Nat :=
  let c0_1347 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2707 : Index := Scalar.indexCast v2655
  let c2_1348 : Index := 2#32
  ![0, v2707.toNat, 2]
def k0_off7 (k0_t1 : Fin k0_t1_loop.trips) (c1_i32_1319 : BitVec 32) : Fin 3 → Nat :=
  let c0_1349 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2713 : Index := Scalar.indexCast v2655
  let c3_1350 : Index := 3#32
  ![0, v2713.toNat, 3]
def k0_off8 (k0_t1 : Fin k0_t1_loop.trips) (c1_i32_1319 : BitVec 32) : Fin 3 → Nat :=
  let c0_1363 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2741 : Index := Scalar.indexCast v2657
  let c512_1364 : Index := 512#32
  ![0, v2741.toNat, 512]
def k0_off9 (k0_t1 : Fin k0_t1_loop.trips) (c1_i32_1319 : BitVec 32) : Fin 3 → Nat :=
  let c0_1365 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2745 : Index := Scalar.indexCast v2655
  let c4_1366 : Index := 4#32
  ![0, v2745.toNat, 4]
def k0_off10 (k0_t1 : Fin k0_t1_loop.trips) (c1_i32_1319 : BitVec 32) : Fin 3 → Nat :=
  let c0_1367 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2751 : Index := Scalar.indexCast v2655
  let c5_1368 : Index := 5#32
  ![0, v2751.toNat, 5]
def k0_off11 (k0_t1 : Fin k0_t1_loop.trips) (c1_i32_1319 : BitVec 32) : Fin 3 → Nat :=
  let c0_1381 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2779 : Index := Scalar.indexCast v2657
  let c768_1382 : Index := 768#32
  ![0, v2779.toNat, 768]
def k0_off12 (k0_t1 : Fin k0_t1_loop.trips) (c1_i32_1319 : BitVec 32) : Fin 3 → Nat :=
  let c0_1383 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2783 : Index := Scalar.indexCast v2655
  let c6_1384 : Index := 6#32
  ![0, v2783.toNat, 6]
def k0_off13 (k0_t1 : Fin k0_t1_loop.trips) (c1_i32_1319 : BitVec 32) : Fin 3 → Nat :=
  let c0_1385 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2789 : Index := Scalar.indexCast v2655
  let c7_1386 : Index := 7#32
  ![0, v2789.toNat, 7]
def k0_off14 (k0_t1 : Fin k0_t1_loop.trips) (c1_i32_1319 : BitVec 32) : Fin 3 → Nat :=
  let c0_1399 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2817 : Index := Scalar.indexCast v2657
  let c1024_1400 : Index := 1024#32
  ![0, v2817.toNat, 1024]
def k0_off15 (k0_t1 : Fin k0_t1_loop.trips) (c1_i32_1319 : BitVec 32) : Fin 3 → Nat :=
  let c0_1401 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2821 : Index := Scalar.indexCast v2655
  let c8_1402 : Index := 8#32
  ![0, v2821.toNat, 8]
def k0_off16 (k0_t1 : Fin k0_t1_loop.trips) (c1_i32_1319 : BitVec 32) : Fin 3 → Nat :=
  let c0_1403 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2827 : Index := Scalar.indexCast v2655
  let c9_1404 : Index := 9#32
  ![0, v2827.toNat, 9]
def k0_off17 (k0_t1 : Fin k0_t1_loop.trips) (c1_i32_1319 : BitVec 32) : Fin 3 → Nat :=
  let c0_1417 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2855 : Index := Scalar.indexCast v2657
  let c1280_1418 : Index := 1280#32
  ![0, v2855.toNat, 1280]
def k0_off18 (k0_t1 : Fin k0_t1_loop.trips) (c1_i32_1319 : BitVec 32) : Fin 3 → Nat :=
  let c0_1419 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2859 : Index := Scalar.indexCast v2655
  let c10_1420 : Index := 10#32
  ![0, v2859.toNat, 10]
def k0_off19 (k0_t1 : Fin k0_t1_loop.trips) (c1_i32_1319 : BitVec 32) : Fin 3 → Nat :=
  let c0_1421 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2865 : Index := Scalar.indexCast v2655
  let c11_1422 : Index := 11#32
  ![0, v2865.toNat, 11]
def k0_off20 (k0_t1 : Fin k0_t1_loop.trips) (c1_i32_1319 : BitVec 32) : Fin 3 → Nat :=
  let c0_1435 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2893 : Index := Scalar.indexCast v2657
  let c1536_1436 : Index := 1536#32
  ![0, v2893.toNat, 1536]
def k0_off21 (k0_t1 : Fin k0_t1_loop.trips) (c1_i32_1319 : BitVec 32) : Fin 3 → Nat :=
  let c0_1437 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2897 : Index := Scalar.indexCast v2655
  let c12_1438 : Index := 12#32
  ![0, v2897.toNat, 12]
def k0_off22 (k0_t1 : Fin k0_t1_loop.trips) (c1_i32_1319 : BitVec 32) : Fin 3 → Nat :=
  let c0_1439 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2903 : Index := Scalar.indexCast v2655
  let c13_1440 : Index := 13#32
  ![0, v2903.toNat, 13]
def k0_off23 (k0_t1 : Fin k0_t1_loop.trips) (c1_i32_1319 : BitVec 32) : Fin 3 → Nat :=
  let c0_1453 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2931 : Index := Scalar.indexCast v2657
  let c1792_1454 : Index := 1792#32
  ![0, v2931.toNat, 1792]
def k0_off24 (k0_t1 : Fin k0_t1_loop.trips) (c1_i32_1319 : BitVec 32) : Fin 3 → Nat :=
  let c0_1455 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2935 : Index := Scalar.indexCast v2655
  let c14_1456 : Index := 14#32
  ![0, v2935.toNat, 14]
def k0_off25 (k0_t1 : Fin k0_t1_loop.trips) (c1_i32_1319 : BitVec 32) : Fin 3 → Nat :=
  let c0_1457 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2941 : Index := Scalar.indexCast v2655
  let c15_1458 : Index := 15#32
  ![0, v2941.toNat, 15]
def k0_off26 (k0_t1 : Fin k0_t1_loop.trips) (c1_i32_1319 : BitVec 32) : Fin 3 → Nat :=
  let c0_1471 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v2969 : Index := Scalar.indexCast v2657
  let c2048_1472 : Index := 2048#32
  ![0, v2969.toNat, 2048]
def k0_off27 (k0_t1 : Fin k0_t1_loop.trips) (c1_i32_1319 : BitVec 32) : Fin 3 → Nat :=
  let c0_1473 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2973 : Index := Scalar.indexCast v2655
  let c16_1474 : Index := 16#32
  ![0, v2973.toNat, 16]
def k0_off28 (k0_t1 : Fin k0_t1_loop.trips) (c1_i32_1319 : BitVec 32) : Fin 3 → Nat :=
  let c0_1475 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v2979 : Index := Scalar.indexCast v2655
  let c17_1476 : Index := 17#32
  ![0, v2979.toNat, 17]
def k0_off29 (k0_t1 : Fin k0_t1_loop.trips) (c1_i32_1319 : BitVec 32) : Fin 3 → Nat :=
  let c0_1489 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v3007 : Index := Scalar.indexCast v2657
  let c2304_1490 : Index := 2304#32
  ![0, v3007.toNat, 2304]
def k0_off30 (k0_t1 : Fin k0_t1_loop.trips) (c1_i32_1319 : BitVec 32) : Fin 3 → Nat :=
  let c0_1491 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3011 : Index := Scalar.indexCast v2655
  let c18_1492 : Index := 18#32
  ![0, v3011.toNat, 18]
def k0_off31 (k0_t1 : Fin k0_t1_loop.trips) (c1_i32_1319 : BitVec 32) : Fin 3 → Nat :=
  let c0_1493 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3017 : Index := Scalar.indexCast v2655
  let c19_1494 : Index := 19#32
  ![0, v3017.toNat, 19]
def k0_off32 (k0_t1 : Fin k0_t1_loop.trips) (c1_i32_1319 : BitVec 32) : Fin 3 → Nat :=
  let c0_1507 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v3045 : Index := Scalar.indexCast v2657
  let c2560_1508 : Index := 2560#32
  ![0, v3045.toNat, 2560]
def k0_off33 (k0_t1 : Fin k0_t1_loop.trips) (c1_i32_1319 : BitVec 32) : Fin 3 → Nat :=
  let c0_1509 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3049 : Index := Scalar.indexCast v2655
  let c20_1510 : Index := 20#32
  ![0, v3049.toNat, 20]
def k0_off34 (k0_t1 : Fin k0_t1_loop.trips) (c1_i32_1319 : BitVec 32) : Fin 3 → Nat :=
  let c0_1511 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3055 : Index := Scalar.indexCast v2655
  let c21_1512 : Index := 21#32
  ![0, v3055.toNat, 21]
def k0_off35 (k0_t1 : Fin k0_t1_loop.trips) (c1_i32_1319 : BitVec 32) : Fin 3 → Nat :=
  let c0_1525 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v3083 : Index := Scalar.indexCast v2657
  let c2816_1526 : Index := 2816#32
  ![0, v3083.toNat, 2816]
def k0_off36 (k0_t1 : Fin k0_t1_loop.trips) (c1_i32_1319 : BitVec 32) : Fin 3 → Nat :=
  let c0_1527 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3087 : Index := Scalar.indexCast v2655
  let c22_1528 : Index := 22#32
  ![0, v3087.toNat, 22]
def k0_off37 (k0_t1 : Fin k0_t1_loop.trips) (c1_i32_1319 : BitVec 32) : Fin 3 → Nat :=
  let c0_1529 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3093 : Index := Scalar.indexCast v2655
  let c23_1530 : Index := 23#32
  ![0, v3093.toNat, 23]
def k0_off38 (k0_t1 : Fin k0_t1_loop.trips) (c1_i32_1319 : BitVec 32) : Fin 3 → Nat :=
  let c0_1543 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v3121 : Index := Scalar.indexCast v2657
  let c3072_1544 : Index := 3072#32
  ![0, v3121.toNat, 3072]
def k0_off39 (k0_t1 : Fin k0_t1_loop.trips) (c1_i32_1319 : BitVec 32) : Fin 3 → Nat :=
  let c0_1545 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3125 : Index := Scalar.indexCast v2655
  let c24_1546 : Index := 24#32
  ![0, v3125.toNat, 24]
def k0_off40 (k0_t1 : Fin k0_t1_loop.trips) (c1_i32_1319 : BitVec 32) : Fin 3 → Nat :=
  let c0_1547 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3131 : Index := Scalar.indexCast v2655
  let c25_1548 : Index := 25#32
  ![0, v3131.toNat, 25]
def k0_off41 (k0_t1 : Fin k0_t1_loop.trips) (c1_i32_1319 : BitVec 32) : Fin 3 → Nat :=
  let c0_1561 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let c128_i32_1320 : BitVec 32 := 128#32
  let v2656 : BitVec 32 := Scalar.muli v2655 c128_i32_1320
  let v2657 : BitVec 32 := v2656
  let v3159 : Index := Scalar.indexCast v2657
  let c3328_1562 : Index := 3328#32
  ![0, v3159.toNat, 3328]
def k0_off42 (k0_t1 : Fin k0_t1_loop.trips) (c1_i32_1319 : BitVec 32) : Fin 3 → Nat :=
  let c0_1563 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3163 : Index := Scalar.indexCast v2655
  let c26_1564 : Index := 26#32
  ![0, v3163.toNat, 26]
def k0_off43 (k0_t1 : Fin k0_t1_loop.trips) (c1_i32_1319 : BitVec 32) : Fin 3 → Nat :=
  let c0_1565 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v2655 : BitVec 32 := Scalar.addi v2654 c1_i32_1319
  let v3169 : Index := Scalar.indexCast v2655
  let c27_1566 : Index := 27#32
  ![0, v3169.toNat, 27]
def k0_mult3 (k0_t1 : Fin k0_t1_loop.trips) : BitVec 32 :=
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  v3197
def k0_off44 (k0_t1 : Fin k0_t1_loop.trips) : Fin 3 → Nat :=
  let c0_1586 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3208 : Index := Scalar.indexCast v3198
  let c0_1587 : Index := 0#32
  ![0, v3208.toNat, 0]
def k0_off45 (k0_t1 : Fin k0_t1_loop.trips) : Fin 3 → Nat :=
  let c0_1594 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3221 : Index := Scalar.indexCast v3198
  let c128_1595 : Index := 128#32
  ![0, v3221.toNat, 128]
def k0_off46 (k0_t1 : Fin k0_t1_loop.trips) : Fin 3 → Nat :=
  let c0_1602 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3234 : Index := Scalar.indexCast v3198
  let c256_1603 : Index := 256#32
  ![0, v3234.toNat, 256]
def k0_off47 (k0_t1 : Fin k0_t1_loop.trips) : Fin 3 → Nat :=
  let c0_1610 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3247 : Index := Scalar.indexCast v3198
  let c384_1611 : Index := 384#32
  ![0, v3247.toNat, 384]
def k0_off48 (k0_t1 : Fin k0_t1_loop.trips) : Fin 3 → Nat :=
  let c0_1618 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3260 : Index := Scalar.indexCast v3198
  let c512_1619 : Index := 512#32
  ![0, v3260.toNat, 512]
def k0_off49 (k0_t1 : Fin k0_t1_loop.trips) : Fin 3 → Nat :=
  let c0_1626 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3273 : Index := Scalar.indexCast v3198
  let c640_1627 : Index := 640#32
  ![0, v3273.toNat, 640]
def k0_off50 (k0_t1 : Fin k0_t1_loop.trips) : Fin 3 → Nat :=
  let c0_1634 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3286 : Index := Scalar.indexCast v3198
  let c768_1635 : Index := 768#32
  ![0, v3286.toNat, 768]
def k0_off51 (k0_t1 : Fin k0_t1_loop.trips) : Fin 3 → Nat :=
  let c0_1642 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3299 : Index := Scalar.indexCast v3198
  let c896_1643 : Index := 896#32
  ![0, v3299.toNat, 896]
def k0_off52 (k0_t1 : Fin k0_t1_loop.trips) : Fin 3 → Nat :=
  let c0_1650 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3312 : Index := Scalar.indexCast v3198
  let c1024_1651 : Index := 1024#32
  ![0, v3312.toNat, 1024]
def k0_off53 (k0_t1 : Fin k0_t1_loop.trips) : Fin 3 → Nat :=
  let c0_1658 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3325 : Index := Scalar.indexCast v3198
  let c1152_1659 : Index := 1152#32
  ![0, v3325.toNat, 1152]
def k0_off54 (k0_t1 : Fin k0_t1_loop.trips) : Fin 3 → Nat :=
  let c0_1666 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3338 : Index := Scalar.indexCast v3198
  let c1280_1667 : Index := 1280#32
  ![0, v3338.toNat, 1280]
def k0_off55 (k0_t1 : Fin k0_t1_loop.trips) : Fin 3 → Nat :=
  let c0_1674 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3351 : Index := Scalar.indexCast v3198
  let c1408_1675 : Index := 1408#32
  ![0, v3351.toNat, 1408]
def k0_off56 (k0_t1 : Fin k0_t1_loop.trips) : Fin 3 → Nat :=
  let c0_1682 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3364 : Index := Scalar.indexCast v3198
  let c1536_1683 : Index := 1536#32
  ![0, v3364.toNat, 1536]
def k0_off57 (k0_t1 : Fin k0_t1_loop.trips) : Fin 3 → Nat :=
  let c0_1690 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3377 : Index := Scalar.indexCast v3198
  let c1664_1691 : Index := 1664#32
  ![0, v3377.toNat, 1664]
def k0_off58 (k0_t1 : Fin k0_t1_loop.trips) : Fin 3 → Nat :=
  let c0_1698 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3390 : Index := Scalar.indexCast v3198
  let c1792_1699 : Index := 1792#32
  ![0, v3390.toNat, 1792]
def k0_off59 (k0_t1 : Fin k0_t1_loop.trips) : Fin 3 → Nat :=
  let c0_1706 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3403 : Index := Scalar.indexCast v3198
  let c1920_1707 : Index := 1920#32
  ![0, v3403.toNat, 1920]
def k0_off60 (k0_t1 : Fin k0_t1_loop.trips) : Fin 3 → Nat :=
  let c0_1714 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3416 : Index := Scalar.indexCast v3198
  let c2048_1715 : Index := 2048#32
  ![0, v3416.toNat, 2048]
def k0_off61 (k0_t1 : Fin k0_t1_loop.trips) : Fin 3 → Nat :=
  let c0_1722 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3429 : Index := Scalar.indexCast v3198
  let c2176_1723 : Index := 2176#32
  ![0, v3429.toNat, 2176]
def k0_off62 (k0_t1 : Fin k0_t1_loop.trips) : Fin 3 → Nat :=
  let c0_1730 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3442 : Index := Scalar.indexCast v3198
  let c2304_1731 : Index := 2304#32
  ![0, v3442.toNat, 2304]
def k0_off63 (k0_t1 : Fin k0_t1_loop.trips) : Fin 3 → Nat :=
  let c0_1738 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3455 : Index := Scalar.indexCast v3198
  let c2432_1739 : Index := 2432#32
  ![0, v3455.toNat, 2432]
def k0_off64 (k0_t1 : Fin k0_t1_loop.trips) : Fin 3 → Nat :=
  let c0_1746 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3468 : Index := Scalar.indexCast v3198
  let c2560_1747 : Index := 2560#32
  ![0, v3468.toNat, 2560]
def k0_off65 (k0_t1 : Fin k0_t1_loop.trips) : Fin 3 → Nat :=
  let c0_1754 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3481 : Index := Scalar.indexCast v3198
  let c2688_1755 : Index := 2688#32
  ![0, v3481.toNat, 2688]
def k0_off66 (k0_t1 : Fin k0_t1_loop.trips) : Fin 3 → Nat :=
  let c0_1762 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3494 : Index := Scalar.indexCast v3198
  let c2816_1763 : Index := 2816#32
  ![0, v3494.toNat, 2816]
def k0_off67 (k0_t1 : Fin k0_t1_loop.trips) : Fin 3 → Nat :=
  let c0_1770 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3507 : Index := Scalar.indexCast v3198
  let c2944_1771 : Index := 2944#32
  ![0, v3507.toNat, 2944]
def k0_off68 (k0_t1 : Fin k0_t1_loop.trips) : Fin 3 → Nat :=
  let c0_1778 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3520 : Index := Scalar.indexCast v3198
  let c3072_1779 : Index := 3072#32
  ![0, v3520.toNat, 3072]
def k0_off69 (k0_t1 : Fin k0_t1_loop.trips) : Fin 3 → Nat :=
  let c0_1786 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3533 : Index := Scalar.indexCast v3198
  let c3200_1787 : Index := 3200#32
  ![0, v3533.toNat, 3200]
def k0_off70 (k0_t1 : Fin k0_t1_loop.trips) : Fin 3 → Nat :=
  let c0_1794 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3546 : Index := Scalar.indexCast v3198
  let c3328_1795 : Index := 3328#32
  ![0, v3546.toNat, 3328]
def k0_off71 (k0_t1 : Fin k0_t1_loop.trips) : Fin 3 → Nat :=
  let c0_1802 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c128_i32_1579 : BitVec 32 := 128#32
  let v3197 : BitVec 32 := Scalar.muli v2654 c128_i32_1579
  let v3198 : BitVec 32 := v3197
  let v3559 : Index := Scalar.indexCast v3198
  let c3456_1803 : Index := 3456#32
  ![0, v3559.toNat, 3456]
def k0_off72 (k0_t1 : Fin k0_t1_loop.trips) (c1_i32_1804 : BitVec 32) : Fin 3 → Nat :=
  let c0_1999 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let v3563 : BitVec 32 := Scalar.addi v2654 c1_i32_1804
  let v3999 : Index := Scalar.indexCast v3563
  let c0_2000 : Index := 0#32
  ![0, v3999.toNat, 0]
def k0_mult4 (k0_t1 : Fin k0_t1_loop.trips) : BitVec 32 :=
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c2_i32_2001 : BitVec 32 := 2#32
  let v4003 : BitVec 32 := Scalar.addi v2654 c2_i32_2001
  let c128_i32_2002 : BitVec 32 := 128#32
  let v4004 : BitVec 32 := Scalar.muli v4003 c128_i32_2002
  v4004
def k0_mult5 (k0_t1 : Fin k0_t1_loop.trips) : BitVec 32 :=
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  v4546
def k0_off73 (k0_t1 : Fin k0_t1_loop.trips) : Fin 3 → Nat :=
  let c0_2269 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4557 : Index := Scalar.indexCast v4547
  let c0_2270 : Index := 0#32
  ![0, v4557.toNat, 0]
def k0_off74 (k0_t1 : Fin k0_t1_loop.trips) : Fin 3 → Nat :=
  let c0_2277 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4570 : Index := Scalar.indexCast v4547
  let c128_2278 : Index := 128#32
  ![0, v4570.toNat, 128]
def k0_off75 (k0_t1 : Fin k0_t1_loop.trips) : Fin 3 → Nat :=
  let c0_2285 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4583 : Index := Scalar.indexCast v4547
  let c256_2286 : Index := 256#32
  ![0, v4583.toNat, 256]
def k0_off76 (k0_t1 : Fin k0_t1_loop.trips) : Fin 3 → Nat :=
  let c0_2293 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4596 : Index := Scalar.indexCast v4547
  let c384_2294 : Index := 384#32
  ![0, v4596.toNat, 384]
def k0_off77 (k0_t1 : Fin k0_t1_loop.trips) : Fin 3 → Nat :=
  let c0_2301 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4609 : Index := Scalar.indexCast v4547
  let c512_2302 : Index := 512#32
  ![0, v4609.toNat, 512]
def k0_off78 (k0_t1 : Fin k0_t1_loop.trips) : Fin 3 → Nat :=
  let c0_2309 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4622 : Index := Scalar.indexCast v4547
  let c640_2310 : Index := 640#32
  ![0, v4622.toNat, 640]
def k0_off79 (k0_t1 : Fin k0_t1_loop.trips) : Fin 3 → Nat :=
  let c0_2317 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4635 : Index := Scalar.indexCast v4547
  let c768_2318 : Index := 768#32
  ![0, v4635.toNat, 768]
def k0_off80 (k0_t1 : Fin k0_t1_loop.trips) : Fin 3 → Nat :=
  let c0_2325 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4648 : Index := Scalar.indexCast v4547
  let c896_2326 : Index := 896#32
  ![0, v4648.toNat, 896]
def k0_off81 (k0_t1 : Fin k0_t1_loop.trips) : Fin 3 → Nat :=
  let c0_2333 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4661 : Index := Scalar.indexCast v4547
  let c1024_2334 : Index := 1024#32
  ![0, v4661.toNat, 1024]
def k0_off82 (k0_t1 : Fin k0_t1_loop.trips) : Fin 3 → Nat :=
  let c0_2341 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4674 : Index := Scalar.indexCast v4547
  let c1152_2342 : Index := 1152#32
  ![0, v4674.toNat, 1152]
def k0_off83 (k0_t1 : Fin k0_t1_loop.trips) : Fin 3 → Nat :=
  let c0_2349 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4687 : Index := Scalar.indexCast v4547
  let c1280_2350 : Index := 1280#32
  ![0, v4687.toNat, 1280]
def k0_off84 (k0_t1 : Fin k0_t1_loop.trips) : Fin 3 → Nat :=
  let c0_2357 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4700 : Index := Scalar.indexCast v4547
  let c1408_2358 : Index := 1408#32
  ![0, v4700.toNat, 1408]
def k0_off85 (k0_t1 : Fin k0_t1_loop.trips) : Fin 3 → Nat :=
  let c0_2365 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4713 : Index := Scalar.indexCast v4547
  let c1536_2366 : Index := 1536#32
  ![0, v4713.toNat, 1536]
def k0_off86 (k0_t1 : Fin k0_t1_loop.trips) : Fin 3 → Nat :=
  let c0_2373 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4726 : Index := Scalar.indexCast v4547
  let c1664_2374 : Index := 1664#32
  ![0, v4726.toNat, 1664]
def k0_off87 (k0_t1 : Fin k0_t1_loop.trips) : Fin 3 → Nat :=
  let c0_2381 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4739 : Index := Scalar.indexCast v4547
  let c1792_2382 : Index := 1792#32
  ![0, v4739.toNat, 1792]
def k0_off88 (k0_t1 : Fin k0_t1_loop.trips) : Fin 3 → Nat :=
  let c0_2389 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4752 : Index := Scalar.indexCast v4547
  let c1920_2390 : Index := 1920#32
  ![0, v4752.toNat, 1920]
def k0_off89 (k0_t1 : Fin k0_t1_loop.trips) : Fin 3 → Nat :=
  let c0_2397 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4765 : Index := Scalar.indexCast v4547
  let c2048_2398 : Index := 2048#32
  ![0, v4765.toNat, 2048]
def k0_off90 (k0_t1 : Fin k0_t1_loop.trips) : Fin 3 → Nat :=
  let c0_2405 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4778 : Index := Scalar.indexCast v4547
  let c2176_2406 : Index := 2176#32
  ![0, v4778.toNat, 2176]
def k0_off91 (k0_t1 : Fin k0_t1_loop.trips) : Fin 3 → Nat :=
  let c0_2413 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4791 : Index := Scalar.indexCast v4547
  let c2304_2414 : Index := 2304#32
  ![0, v4791.toNat, 2304]
def k0_off92 (k0_t1 : Fin k0_t1_loop.trips) : Fin 3 → Nat :=
  let c0_2421 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4804 : Index := Scalar.indexCast v4547
  let c2432_2422 : Index := 2432#32
  ![0, v4804.toNat, 2432]
def k0_off93 (k0_t1 : Fin k0_t1_loop.trips) : Fin 3 → Nat :=
  let c0_2429 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4817 : Index := Scalar.indexCast v4547
  let c2560_2430 : Index := 2560#32
  ![0, v4817.toNat, 2560]
def k0_off94 (k0_t1 : Fin k0_t1_loop.trips) : Fin 3 → Nat :=
  let c0_2437 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4830 : Index := Scalar.indexCast v4547
  let c2688_2438 : Index := 2688#32
  ![0, v4830.toNat, 2688]
def k0_off95 (k0_t1 : Fin k0_t1_loop.trips) : Fin 3 → Nat :=
  let c0_2445 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4843 : Index := Scalar.indexCast v4547
  let c2816_2446 : Index := 2816#32
  ![0, v4843.toNat, 2816]
def k0_off96 (k0_t1 : Fin k0_t1_loop.trips) : Fin 3 → Nat :=
  let c0_2453 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4856 : Index := Scalar.indexCast v4547
  let c2944_2454 : Index := 2944#32
  ![0, v4856.toNat, 2944]
def k0_off97 (k0_t1 : Fin k0_t1_loop.trips) : Fin 3 → Nat :=
  let c0_2461 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4869 : Index := Scalar.indexCast v4547
  let c3072_2462 : Index := 3072#32
  ![0, v4869.toNat, 3072]
def k0_off98 (k0_t1 : Fin k0_t1_loop.trips) : Fin 3 → Nat :=
  let c0_2469 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4882 : Index := Scalar.indexCast v4547
  let c3200_2470 : Index := 3200#32
  ![0, v4882.toNat, 3200]
def k0_off99 (k0_t1 : Fin k0_t1_loop.trips) : Fin 3 → Nat :=
  let c0_2477 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4895 : Index := Scalar.indexCast v4547
  let c3328_2478 : Index := 3328#32
  ![0, v4895.toNat, 3328]
def k0_off100 (k0_t1 : Fin k0_t1_loop.trips) : Fin 3 → Nat :=
  let c0_2485 : Index := 0#32
  let c2_i32_1318 : BitVec 32 := 2#32
  let c0_i32_396 : BitVec 32 := 0#32
  let c1_i32_397 : BitVec 32 := 1#32
  let arg15 : BitVec 32 := Scf.iv c0_i32_396 c1_i32_397 k0_t1
  let v2654 : BitVec 32 := Scalar.muli c2_i32_1318 arg15
  let c1_i32_2261 : BitVec 32 := 1#32
  let v4545 : BitVec 32 := Scalar.addi v2654 c1_i32_2261
  let c128_i32_2262 : BitVec 32 := 128#32
  let v4546 : BitVec 32 := Scalar.muli v4545 c128_i32_2262
  let v4547 : BitVec 32 := v4546
  let v4908 : Index := Scalar.indexCast v4547
  let c3456_2486 : Index := 3456#32
  ![0, v4908.toNat, 3456]
def k0_mult6 : BitVec 32 :=
  let c896_i32 : BitVec 32 := 896#32
  c896_i32
def k0_mult7 : BitVec 32 :=
  let c768_i32 : BitVec 32 := 768#32
  c768_i32
def k0_mult8 : BitVec 32 :=
  let c896_i32_1093 : BitVec 32 := 896#32
  c896_i32_1093
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x8x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1024x3584 : Shape := ⟨3, ![16, 1024, 3584]⟩
abbrev S16x8x28 : Shape := ⟨3, ![16, 8, 28]⟩
abbrev S16x64x3584 : Shape := ⟨3, ![16, 64, 3584]⟩
abbrev S16x1024x64 : Shape := ⟨3, ![16, 1024, 64]⟩
abbrev S16x8x128x28x128 : Shape := ⟨5, ![16, 8, 128, 28, 128]⟩
abbrev S16x8x1x28x1 : Shape := ⟨5, ![16, 8, 1, 28, 1]⟩
abbrev S16x8x28x254 : Shape := ⟨4, ![16, 8, 28, 254]⟩
abbrev S16x8x28x1 : Shape := ⟨4, ![16, 8, 28, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x1024x3584, .fp8e4m3⟩
  | .hbm, ⟨1, _⟩ => ⟨S16x8x28, .f32⟩
  | .hbm, ⟨2, _⟩ => ⟨S16x64x3584, .bf16⟩
  | .hbm, ⟨3, _⟩ => ⟨S16x1024x64, .bf16⟩
  | .hbm, ⟨4, _⟩ => ⟨S16x1024x3584, .fp8e4m3⟩
  | .hbm, ⟨5, _⟩ => ⟨S16x8x28, .f32⟩
  | .local _ .vmem, ⟨0, _⟩ => ⟨S16x1024x3584, .fp8e4m3⟩
  | .local _ .vmem, ⟨1, _⟩ => ⟨S16x8x28, .f32⟩
  | .local _ .vmem, ⟨2, _⟩ => ⟨S16x64x3584, .bf16⟩
  | .local _ .vmem, ⟨3, _⟩ => ⟨S16x1024x64, .bf16⟩
  | .local _ .vmem, ⟨4, _⟩ => ⟨S16x1024x3584, .fp8e4m3⟩
  | .local _ .vmem, ⟨5, _⟩ => ⟨S16x8x28, .f32⟩
  | _, _ => ⟨S16x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1024x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Access.lean ====
/-
  Loads and stores of a memref held as `owns c m q X` — by what is READ through it, a function `X` on the memref's
  indices — at the head of a program. A load continues at `X` placed by its rectangle; an unmasked store leaves the
  contents overlaid, on its rectangle, with the stored vector. Stated over any signature, so that both printed
  programs use them.
-/
module

public import Idealize.ShloMosaic.Lib.Tactic
public import Idealize.ShloMosaic.Lib.Pipeline.FrameBody

@[expose] public section

noncomputable section

namespace Cert.Lora

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of an owned memref: the program continues at the contents read, placed by the load's rectangle. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    owns c m q X ⊢ iprop((owns c m q X -∗ wp frame (wpE defs 𝒱 c bd) E (k fun x => X (r.idx x)) Q)
      -∗ wp frame (wpE defs 𝒱 c bd) E (.op (.load m r hl) k) Q) := by
  unfold owns
  iintro ⟨%f, %hf, H⟩ HK
  subst hf
  iapply (wp_load 𝒱 c bd E (S := m.view.set) (f := f) (m.view.setOn_subset_set _)) $$ H
  iintro H
  iapply HK
  iexists f
  isplitr
  · ipureintro; rfl
  iexact H

/-- An unmasked store into an owned memref: the contents read afterwards are the old ones with the stored vector laid
    over them on the store's rectangle. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X ⊢ iprop((owns c m fullShare (r.overlay X w) -∗ wp frame (wpE defs 𝒱 c bd) E (k ⟨⟩) Q)
      -∗ wp frame (wpE defs 𝒱 c bd) E (.op (.store m r w Finset.univ hx hm) k) Q) := by
  unfold owns
  iintro ⟨%f, %hf, H⟩ HK
  subst hf
  iapply (wp_store 𝒱 c bd E (Q := Q) (w := w) (hx := hx) (hm := hm) (k := k) (Mk := Finset.univ) (f := f) (S := m.view.set)
    ?_) $$ H
  · rw [View.setOn_univ]; exact m.view.set_slice_subset r
  iintro H
  iapply HK
  iexists _
  isplitr
  swap
  · iexact H
  ipureintro
  funext j
  by_cases hj : j ∈ r.set
  · obtain ⟨x, rfl⟩ : ∃ x, r.emb x = j := r.exists_idx_of_mem hj
    rw [Rect.overlay_emb]
    exact View.read_slice_write_emb r _ w (Finset.mem_univ x)
  · rw [Rect.overlay_of_not_mem _ _ _ hj]
    exact View.read_slice_write_of_not_mem r _ _ _ (by rwa [Rect.map_emb_univ])

/-- `wp_load_owns` with the vector read named. -/
theorem wp_load_to {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e}
    {v : r.shape.Idx → Val e} (h : (fun x => X (r.idx x)) = v) :
    owns c m q X ⊢ iprop((owns c m q X -∗ wp frame (wpE defs 𝒱 c bd) E (k v) Q)
      -∗ wp frame (wpE defs 𝒱 c bd) E (.op (.load m r hl) k) Q) := by
  subst h
  exact wp_load_owns 𝒱 c bd E

/-- `wp_store_owns` with the contents left named. -/
theorem wp_store_to {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X Y : s.Idx → Val e} (h : r.overlay X w = Y) :
    owns c m fullShare X ⊢ iprop((owns c m fullShare Y -∗ wp frame (wpE defs 𝒱 c bd) E (k ⟨⟩) Q)
      -∗ wp frame (wpE defs 𝒱 c bd) E (.op (.store m r w Finset.univ hx hm) k) Q) := by
  subst h
  exact wp_store_owns 𝒱 c bd E

end Cert.Lora

end
-- ==== Proof.Values.lean ====
/-
  What the kernel computes of one matrix, as functions of the four blocks it reads: the merged rows of one block row, the
  partial maxima of every 128 × 128 block, the scales and their inverses, and the codes. Each definition is the vector
  expression of the kernel's own code, over any number format; `p` counts the eight block rows, `q` the 28 block columns,
  `j` the 14 column tiles of 256 and `g` the four groups of eight block columns.
-/
module

public import Idealize.ShloMosaic.Lib.Tactic
public import Idealize.ShloMosaic.Lib.ValueIdx

@[expose] public section

noncomputable section

namespace Cert.Lora

open Idealize.ShloMosaic Idealize.ShloMosaic.ValueIdx

abbrev S1x1024x3584 : Shape := ⟨3, ![1, 1024, 3584]⟩
abbrev S1x8x28 : Shape := ⟨3, ![1, 8, 28]⟩
abbrev S1x64x3584 : Shape := ⟨3, ![1, 64, 3584]⟩
abbrev S1x1024x64 : Shape := ⟨3, ![1, 1024, 64]⟩
abbrev S128x256 : Shape := ⟨2, ![128, 256]⟩
abbrev S128x3584 : Shape := ⟨2, ![128, 3584]⟩
abbrev S256x128 : Shape := ⟨2, ![256, 128]⟩
abbrev S32x128 : Shape := ⟨2, ![32, 128]⟩
abbrev S1x128x64 : Shape := ⟨3, ![1, 128, 64]⟩
abbrev S128x64 : Shape := ⟨2, ![128, 64]⟩
abbrev S128x192 : Shape := ⟨2, ![128, 192]⟩
abbrev S1x128x256 : Shape := ⟨3, ![1, 128, 256]⟩
abbrev S1x1x1 : Shape := ⟨3, ![1, 1, 1]⟩
abbrev S128x128 : Shape := ⟨2, ![128, 128]⟩
abbrev S1x64x256 : Shape := ⟨3, ![1, 64, 256]⟩
abbrev S64x256 : Shape := ⟨2, ![64, 256]⟩
abbrev S192x256 : Shape := ⟨2, ![192, 256]⟩
abbrev S16x8x128 : Shape := ⟨3, ![16, 8, 128]⟩
abbrev S8x128 : Shape := ⟨2, ![8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S1x28 : Shape := ⟨2, ![1, 28]⟩
abbrev S1x1x28 : Shape := ⟨3, ![1, 1, 28]⟩
abbrev S1x128x128 : Shape := ⟨3, ![1, 128, 128]⟩

/-- The contraction of the kernel's one matrix product: `128 × 192` by `192 × 256`. -/
def mmDims : DotDims S128x192 S192x256 S128x256 where
  lhsContracting := [1]
  rhsContracting := [0]
  lhsNonContracting := [0]
  rhsNonContracting := [1]
  lhsBatch := []
  rhsBatch := []
  wf := by decide

variable {F : FTy → Type} [FloatOps F]

/-- The left operand's constant part: `2` on the diagonal that starts at column 64, zero elsewhere. -/
def eye : FVec F S128x256 .bf16 :=
  truncf .bf16 (select (cmpi .eq (iota .tc S128x256 32 [1] (by decide))
      (addi (iota .tc S128x256 32 [0] (by decide)) (broadcast S128x256 64#32)))
    (broadcast S128x256 (Scalar.ofBits .f32 0x40000000#32 : F .f32))
    (broadcast S128x256 (Scalar.ofBits .f32 0x00000000#32 : F .f32))) (by decide)

/-- A block of rows of `lora_b` without its leading axis of one. -/
def headPay (v : FVec F S1x128x64 .bf16) : FVec F S128x64 .bf16 :=
  shapeCast S128x64 v (by decide)

theorem concatCols : Shape.Concatenates [S128x128, S128x128] S128x256 1 := by decide
theorem concatRows : Shape.Concatenates [S64x256, S128x256] S192x256 0 := by decide

/-- The right operand of one tile: the tile of `lora_a` above the tile of codes, each half scaled by its scale. -/
def tileRhs (w : FVec F S1x128x256 .fp8e4m3) (s s' : F .f32) (a : FVec F S1x64x256 .bf16) : FVec F S192x256 .bf16 :=
  concatenate S192x256 0 [⟨S64x256, shapeCast S64x256 a (by decide)⟩,
    ⟨S128x256, concatenate S128x256 1
      [⟨S128x128, mulf (extractStridedSlice S128x128 ![0, 0]
          (extf .bf16 (shapeCast S128x256 w (by decide)) (by decide)) (by decide))
        (truncf .bf16 (broadcast S128x128 s) (by decide))⟩,
       ⟨S128x128, mulf (extractStridedSlice S128x128 ![0, 128]
          (extf .bf16 (shapeCast S128x256 w (by decide)) (by decide)) (by decide))
        (truncf .bf16 (broadcast S128x128 s') (by decide))⟩] concatCols⟩] concatRows

/-- One tile of twice the merged rows. -/
def tileM (lhs : FVec F S128x192 .bf16) (w : FVec F S1x128x256 .fp8e4m3) (s s' : F .f32)
    (a : FVec F S1x64x256 .bf16) : FVec F S128x256 .f32 :=
  matmul mmDims none lhs (tileRhs w s s' a) (constant S128x256 .f32 0x00000000#32)

/-- The largest magnitudes of a block over its row groups: 8 × 128 of them. -/
def rowMax (m : FVec F S128x128 .f32) : FVec F S8x128 .f32 :=
  multiReduction .maximumf [0] S8x128 (shapeCast S16x8x128 (absf m) (by decide)) 0xFF800000#32 (by decide) (.inl rfl) rfl

/-- `rowMax` of the left half of a tile. -/
def rowMaxL (m : FVec F S128x256 .f32) : FVec F S8x128 .f32 :=
  rowMax (extractStridedSlice S128x128 ![0, 0] m (by decide))

/-- `rowMax` of the right half of a tile. -/
def rowMaxR (m : FVec F S128x256 .f32) : FVec F S8x128 .f32 :=
  rowMax (extractStridedSlice S128x128 ![0, 128] m (by decide))

/-- Of eight block columns' maxima, taken a row of each at a time, the one maximum of each block, over 896. -/
def amaxOf (v0 v1 v2 v3 v4 v5 v6 v7 : FVec F S8x128 .f32) : FVec F S8x128 .f32 :=
  mulf (mulf (broadcastTo S8x128 (shapeCast S8x1 (shapeCast S8x1 (multiReduction .maximumf [1] S8
      (maximumf (maximumf (maximumf (maximumf (maximumf (maximumf (maximumf v0 v1) v2) v3) v4) v5) v6) v7)
      0xFF800000#32 (by decide) (.inl rfl) rfl) (by decide)) (by decide)) (by decide))
    (broadcast S8x128 (Scalar.ofBits .f32 0x3F000000#32 : F .f32)))
    (broadcast S8x128 (Scalar.ofBits .f32 0x3B124925#32 : F .f32))

/-- One step of the search for the exponent field: set the bit `b` where the power of two of that field is not above `x`. -/
def fieldStep (x : FVec F S8x128 .f32) (b : BitVec 32) (f : IVec S8x128 32) : IVec S8x128 32 :=
  select (cmpf .oge x (bitcastToFloat .f32 (shli (addi f (broadcast S8x128 b)) (broadcast S8x128 23#32))))
    (addi f (broadcast S8x128 b)) f

/-- The exponent field of each number. -/
def fieldOf (x : FVec F S8x128 .f32) : IVec S8x128 32 :=
  fieldStep x 1#32 <| fieldStep x 2#32 <| fieldStep x 4#32 <| fieldStep x 8#32 <| fieldStep x 16#32 <|
    fieldStep x 32#32 <| fieldStep x 64#32 <| fieldStep x 128#32 <| broadcast S8x128 0#32

/-- The exponent of a field, zero at the two fields that stand for no exponent. -/
def expOf (f : IVec S8x128 32) : IVec S8x128 32 :=
  select (ori (cmpi .eq f (broadcast S8x128 0#32)) (cmpi .eq f (broadcast S8x128 255#32)))
    (broadcast S8x128 0#32) (subi f (broadcast S8x128 126#32))

/-- Two to the exponent. -/
def scaleOf (e : IVec S8x128 32) : FVec F S8x128 .f32 :=
  bitcastToFloat .f32 (shli (addi e (broadcast S8x128 127#32)) (broadcast S8x128 23#32))

/-- Half of two to minus the exponent. -/
def invOf (e : IVec S8x128 32) : FVec F S8x128 .f32 :=
  mulf (bitcastToFloat .f32 (shli (subi (broadcast S8x128 127#32) e) (broadcast S8x128 23#32)))
    (broadcast S8x128 (Scalar.ofBits .f32 0x3F000000#32 : F .f32))

/-- Lane number minus row number. -/
def diag : IVec S8x128 32 := subi (iota .tc S8x128 32 [1] (by decide)) (iota .tc S8x128 32 [0] (by decide))

/-- The row of 28 scales out of the four groups: each group's scale of each row moved to its lane. -/
def scaleRow (s0 s1 s2 s3 : FVec F S8x128 .f32) : FVec F S1x1x28 .f32 :=
  shapeCast S1x1x28 (extractStridedSlice S1x28 ![0, 0] (shapeCast S1x128 (multiReduction .add [0] S128
    (select (cmpi .eq diag (broadcast S8x128 24#32)) s3
      (select (cmpi .eq diag (broadcast S8x128 16#32)) s2
        (select (cmpi .eq diag (broadcast S8x128 8#32)) s1
          (select (cmpi .eq diag (broadcast S8x128 0#32)) s0
            (broadcast S8x128 (Scalar.ofBits .f32 0x00000000#32 : F .f32))))))
    0x00000000#32 (by decide) (.inl rfl) rfl) (by decide)) (by decide)) (by decide)

/-- The codes of one block: the rows times their inverse scale, clipped, rounded to eight bits. -/
def quantPay (y : FVec F S128x128 .f32) (inv : FVec F S1x128 .f32) : FVec F S1x128x128 .fp8e4m3 :=
  shapeCast S1x128x128 (truncf .fp8e4m3 (minimumf (broadcast S128x128 (Scalar.ofBits .f32 0x43E00000#32 : F .f32))
    (maximumf (broadcast S128x128 (Scalar.ofBits .f32 0xC3E00000#32 : F .f32))
      (mulf y (broadcastTo S128x128 inv (by decide))))) (by decide)) (by decide)

/-! ## The blocks in terms of the matrix's four inputs -/

section
variable (xw : FVec F S1x1024x3584 .fp8e4m3) (xs : FVec F S1x8x28 .f32) (xa : FVec F S1x64x3584 .bf16)
  (xb : FVec F S1x1024x64 .bf16)

/-- The rows of `lora_b` of block row `p`. -/
def rowsB (p : ℕ) : FVec F S1x128x64 .bf16 := fun x =>
  xb (ix3 0 ⟨(128 * p + (x 1).val) % 1024, Nat.mod_lt _ (by decide)⟩ (x 2))

/-- The left operand's buffer at block row `p`. -/
def lhsB (p : ℕ) : FVec F S128x256 .bf16 := fun y =>
  if h : (y 1).val < 64 then headPay (rowsB xb p) (ix2 (y 0) ⟨(y 1).val, h⟩) else eye y

/-- The left operand at block row `p`: the 192 columns used. -/
def lhsV (p : ℕ) : FVec F S128x192 .bf16 := fun x =>
  lhsB xb p (ix2 (x 0) ⟨(x 1).val, lt_trans (x 1).isLt (by decide)⟩)

/-- The codes of block row `p`, tile `j`. -/
def tileW (p j : ℕ) : FVec F S1x128x256 .fp8e4m3 := fun x =>
  xw (ix3 0 ⟨(128 * p + (x 1).val) % 1024, Nat.mod_lt _ (by decide)⟩
    ⟨(256 * j + (x 2).val) % 3584, Nat.mod_lt _ (by decide)⟩)

/-- The scale of block `p`, `q`. -/
def blockS (p q : ℕ) : F .f32 := xs (ix3 0 ⟨p % 8, Nat.mod_lt _ (by decide)⟩ ⟨q % 28, Nat.mod_lt _ (by decide)⟩)

/-- The columns of `lora_a` of tile `j`. -/
def tileA (j : ℕ) : FVec F S1x64x256 .bf16 := fun x =>
  xa (ix3 0 (x 1) ⟨(256 * j + (x 2).val) % 3584, Nat.mod_lt _ (by decide)⟩)

/-- Twice the merged matrix at block row `p`, tile `j`. -/
def mergedT (p j : ℕ) : FVec F S128x256 .f32 :=
  tileM (lhsV xb p) (tileW xw p j) (blockS xs p (2 * j)) (blockS xs p (2 * j + 1)) (tileA xa j)

/-- Twice the merged matrix at block row `p`. -/
def mergedV (p : ℕ) : FVec F S128x3584 .f32 := fun y =>
  mergedT xw xs xa xb p ((y 1).val / 256) (ix2 (y 0) ⟨(y 1).val % 256, Nat.mod_lt _ (by decide)⟩)

/-- The partial maxima of block `p`, `q`. -/
def maxR (p q : ℕ) : FVec F S8x128 .f32 :=
  if q % 2 = 0 then rowMaxL (mergedT xw xs xa xb p (q / 2)) else rowMaxR (mergedT xw xs xa xb p (q / 2))

/-- The buffer of partial maxima at block row `p`: eight rows for each block, and zero for the four block columns there are not. -/
def maxV (p : ℕ) : FVec F S256x128 .f32 := fun y =>
  if (y 0).val < 224 then
    maxR xw xs xa xb p ((y 0).val / 8) (ix2 ⟨(y 0).val % 8, Nat.mod_lt _ (by decide)⟩ (y 1))
  else Scalar.ofBits .f32 0x00000000#32

/-- Every eighth row of the partial maxima, from row `64 g + i`. -/
def maxS (p g i : ℕ) : FVec F S8x128 .f32 := fun x =>
  maxV xw xs xa xb p (ix2 ⟨(64 * g + i + 8 * (x 0).val) % 256, Nat.mod_lt _ (by decide)⟩ (x 1))

/-- The exponents of the eight blocks of group `g`. -/
def expG (p g : ℕ) : IVec S8x128 32 :=
  expOf (fieldOf (amaxOf (maxS xw xs xa xb p g 0) (maxS xw xs xa xb p g 1) (maxS xw xs xa xb p g 2)
    (maxS xw xs xa xb p g 3) (maxS xw xs xa xb p g 4) (maxS xw xs xa xb p g 5) (maxS xw xs xa xb p g 6)
    (maxS xw xs xa xb p g 7)))

/-- The buffer of inverse scales at block row `p`. -/
def invV (p : ℕ) : FVec F S32x128 .f32 := fun y =>
  invOf (expG xw xs xa xb p ((y 0).val / 8)) (ix2 ⟨(y 0).val % 8, Nat.mod_lt _ (by decide)⟩ (y 1))

/-- The scales of block row `p`. -/
def scaleR (p : ℕ) : FVec F S1x1x28 .f32 :=
  scaleRow (scaleOf (expG xw xs xa xb p 0)) (scaleOf (expG xw xs xa xb p 1)) (scaleOf (expG xw xs xa xb p 2))
    (scaleOf (expG xw xs xa xb p 3))

/-- The codes of block `p`, `q`. -/
def codesB (p q : ℕ) : FVec F S1x128x128 .fp8e4m3 :=
  quantPay (fun x => mergedV xw xs xa xb p (ix2 (x 0) ⟨(128 * q + (x 1).val) % 3584, Nat.mod_lt _ (by decide)⟩))
    (fun x => invV xw xs xa xb p (ix2 ⟨q % 32, Nat.mod_lt _ (by decide)⟩ (x 1)))

/-- The codes of the whole matrix. -/
def codesV : FVec F S1x1024x3584 .fp8e4m3 := fun y =>
  codesB xw xs xa xb ((y 1).val / 128) ((y 2).val / 128)
    (ix3 0 ⟨(y 1).val % 128, Nat.mod_lt _ (by decide)⟩ ⟨(y 2).val % 128, Nat.mod_lt _ (by decide)⟩)

/-- The scales of the whole matrix. -/
def scalesV : FVec F S1x8x28 .f32 := fun y => scaleR xw xs xa xb (y 1).val (ix3 0 0 (y 2))

end

end Cert.Lora

end
-- ==== Proof.Steps.lean ====
/-
  The steps of the kernel's body, each a run of loads and stores the body repeats: the head of a merge, one column tile
  of it, one group of eight scales, the row of scales, one block of codes. A step's theorem says what the buffers hold
  after it, for any continuation of the program, and takes as hypotheses where the rectangles lie and what the stored
  vectors are.
-/
module

public import proofs.«01_k».proof.Proof.Access
public import proofs.«01_k».proof.Proof.Values
public import Idealize.ShloMosaic.Lib.Pipeline.ValueKit.Tiles

@[expose] public section

noncomputable section

namespace Cert.Lora

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Overlays -/

/-- A vector laid over contents on a unit-stride rectangle gives `Y`, if it agrees with `Y` on the rectangle and the
    contents agree with `Y` off it. -/
theorem overlay_unit_eq {s : Shape} {α : Type} {off size : Fin s.rank → ℕ} {inb} (X Y : s.Idx → α)
    (w : (Rect.unit (s := s) off size inb).shape.Idx → α)
    (hin : ∀ (x : (Rect.unit (s := s) off size inb).shape.Idx) (y : s.Idx),
      (∀ a, (y a).val = off a + (x a).val) → w x = Y y)
    (hout : ∀ (y : s.Idx) (a : Fin s.rank), (y a).val < off a ∨ off a + size a ≤ (y a).val → X y = Y y) :
    (Rect.unit (s := s) off size inb).overlay X w = Y := by
  funext y
  by_cases hy : y ∈ (Rect.unit (s := s) off size inb).set
  · obtain ⟨x, rfl⟩ : ∃ x, (Rect.unit (s := s) off size inb).emb x = y :=
      (Rect.unit (s := s) off size inb).exists_idx_of_mem hy
    rw [Rect.overlay_emb]
    exact hin x _ fun a => Rect.idx_unit_val off size inb x a
  · rw [Rect.overlay_of_not_mem _ _ _ hy]
    rw [Rect.mem_set_unit] at hy
    push Not at hy
    obtain ⟨a, ha⟩ := hy
    refine hout y a ?_
    by_cases h : off a ≤ (y a).val
    · exact .inr (ha h)
    · exact .inl (by omega)

variable {F : FTy → Type} [FloatOps F]

/-- The buffer of merged rows with `j` tiles of `V` written over `A`. -/
def accAt {α : Type} (V A : S128x3584.Idx → α) (j : ℕ) : S128x3584.Idx → α := fun y => if (y 1).val < 256 * j then V y else A y
/-- The buffer of partial maxima with `n` blocks of `V` written over `X`. -/
def mxAt {α : Type} (V X : S256x128.Idx → α) (n : ℕ) : S256x128.Idx → α := fun y => if (y 0).val < 8 * n then V y else X y
/-- The buffer of inverse scales with `g` groups of `V` written over `X`. -/
def invAt {α : Type} (V X : S32x128.Idx → α) (g : ℕ) : S32x128.Idx → α := fun y => if (y 0).val < 8 * g then V y else X y
/-- The codes with block rows below `p`, and `q` blocks of block row `p`, written over `O`. -/
def outAt {α : Type} (V O : S1x1024x3584.Idx → α) (p q : ℕ) : S1x1024x3584.Idx → α := fun y =>
  if (y 1).val < 128 * p ∨ ((y 1).val < 128 * (p + 1) ∧ (y 2).val < 128 * q) then V y else O y
/-- The scales with `p` rows written over `O`. -/
def soutAt {α : Type} (V O : S1x8x28.Idx → α) (p : ℕ) : S1x8x28.Idx → α := fun y => if (y 1).val < p then V y else O y

variable {nD : Nat} {τ : Topo} {sig : RefSig} {Ix : Type} [DecidableEq Ix]
variable {Name : Type} [DecidableEq Name] {U : Type} [URA U] {Lvl : Type} [Preorder Lvl] {Λ : Labels}
variable {defs : Defs nD τ sig (Elt F) Λ} {𝒱 : Variants} {bd : Option 𝒱.V} {E : Set Name} {c : Dev nD}

local notation "𝕄L" => MT nD τ sig Ix (Elt F) Name U Lvl

/-- The four blocks read. -/
def Inp (c : Dev nD) (mw : Memref sig .tc .vmem S1x1024x3584 .fp8e4m3) (ms : Memref sig .tc .smem S1x8x28 .f32)
    (ma : Memref sig .tc .vmem S1x64x3584 .bf16) (mb : Memref sig .tc .vmem S1x1024x64 .bf16)
    (xw : FVec F S1x1024x3584 .fp8e4m3) (xs : FVec F S1x8x28 .f32) (xa : FVec F S1x64x3584 .bf16)
    (xb : FVec F S1x1024x64 .bf16) : sProp 𝕄L :=
  iprop(owns (c : Thread nD τ) mw fullShare xw ∗ owns (c : Thread nD τ) ms fullShare xs ∗
    owns (c : Thread nD τ) ma fullShare xa ∗ owns (c : Thread nD τ) mb fullShare xb)

/-- One of the two sets of scratch buffers: the left operand, the merged rows, the partial maxima, the inverse scales. -/
def Slot (c : Dev nD) (ml : Memref sig .tc .vmem S128x256 .bf16) (mc : Memref sig .tc .vmem S128x3584 .f32)
    (mm : Memref sig .tc .vmem S256x128 .f32) (mi : Memref sig .tc .vmem S32x128 .f32)
    (L : FVec F S128x256 .bf16) (A : FVec F S128x3584 .f32) (X : FVec F S256x128 .f32) (V : FVec F S32x128 .f32) :
    sProp 𝕄L :=
  iprop(owns (c : Thread nD τ) ml fullShare L ∗ owns (c : Thread nD τ) mc fullShare A ∗
    owns (c : Thread nD τ) mm fullShare X ∗ owns (c : Thread nD τ) mi fullShare V)

/-- The two blocks written. -/
def Out (c : Dev nD) (mo : Memref sig .tc .vmem S1x1024x3584 .fp8e4m3) (mt : Memref sig .tc .vmem S1x8x28 .f32)
    (O : FVec F S1x1024x3584 .fp8e4m3) (T : FVec F S1x8x28 .f32) : sProp 𝕄L :=
  iprop(owns (c : Thread nD τ) mo fullShare O ∗ owns (c : Thread nD τ) mt fullShare T)

variable {mw : Memref sig .tc .vmem S1x1024x3584 .fp8e4m3} {ms : Memref sig .tc .smem S1x8x28 .f32}
  {ma : Memref sig .tc .vmem S1x64x3584 .bf16} {mb : Memref sig .tc .vmem S1x1024x64 .bf16}
  {mo : Memref sig .tc .vmem S1x1024x3584 .fp8e4m3} {mt : Memref sig .tc .vmem S1x8x28 .f32}
  {ml : Memref sig .tc .vmem S128x256 .bf16} {mc : Memref sig .tc .vmem S128x3584 .f32}
  {mm : Memref sig .tc .vmem S256x128 .f32} {mi : Memref sig .tc .vmem S32x128 .f32}
  {xw : FVec F S1x1024x3584 .fp8e4m3} {xs : FVec F S1x8x28 .f32} {xa : FVec F S1x64x3584 .bf16}
  {xb : FVec F S1x1024x64 .bf16} {O : FVec F S1x1024x3584 .fp8e4m3} {T : FVec F S1x8x28 .f32}
  {L : FVec F S128x256 .bf16} {A : FVec F S128x3584 .f32} {X : FVec F S256x128 .f32} {V : FVec F S32x128 .f32}
  {R : sProp (MT nD τ sig Ix (Elt F) Name U Lvl)} {Q : PUnit → sProp (MT nD τ sig Ix (Elt F) Name U Lvl)}

/-! ## The loaded vectors -/

theorem load_tileW {p j : ℕ} (hp : p < 8) (hj : j < 14) {inb} :
    (fun x => xw ((Rect.unit (s := S1x1024x3584) ![0, 128 * p, 256 * j] S1x128x256.size inb).idx x)) = tileW xw p j := by
  funext x
  show xw _ = xw _
  congr 1
  funext a
  apply Fin.ext
  rw [Rect.idx_unit_val]
  have h1 : (x 1).val < 128 := (x 1).isLt
  have h2 : (x 2).val < 256 := (x 2).isLt
  have h0 : (x 0).val < 1 := (x 0).isLt
  match a with
  | ⟨0, _⟩ => show 0 + (x 0).val = 0; omega
  | ⟨1, _⟩ => show 128 * p + (x 1).val = (128 * p + (x 1).val) % 1024; omega
  | ⟨2, _⟩ => show 256 * j + (x 2).val = (256 * j + (x 2).val) % 3584; omega

theorem load_rowsB {p : ℕ} (hp : p < 8) {inb} :
    (fun x => xb ((Rect.unit (s := S1x1024x64) ![0, 128 * p, 0] S1x128x64.size inb).idx x)) = rowsB xb p := by
  funext x
  show xb _ = xb _
  congr 1
  funext a
  apply Fin.ext
  rw [Rect.idx_unit_val]
  have h1 : (x 1).val < 128 := (x 1).isLt
  have h0 : (x 0).val < 1 := (x 0).isLt
  match a with
  | ⟨0, _⟩ => show 0 + (x 0).val = 0; omega
  | ⟨1, _⟩ => show 128 * p + (x 1).val = (128 * p + (x 1).val) % 1024; omega
  | ⟨2, _⟩ => show 0 + (x 2).val = (x 2).val; omega

theorem load_tileA {j : ℕ} (hj : j < 14) {inb} :
    (fun x => xa ((Rect.unit (s := S1x64x3584) ![0, 0, 256 * j] S1x64x256.size inb).idx x)) = tileA xa j := by
  funext x
  show xa _ = xa _
  congr 1
  funext a
  apply Fin.ext
  rw [Rect.idx_unit_val]
  have h2 : (x 2).val < 256 := (x 2).isLt
  have h0 : (x 0).val < 1 := (x 0).isLt
  match a with
  | ⟨0, _⟩ => show 0 + (x 0).val = 0; omega
  | ⟨1, _⟩ => show 0 + (x 1).val = (x 1).val; omega
  | ⟨2, _⟩ => show 256 * j + (x 2).val = (256 * j + (x 2).val) % 3584; omega

theorem load_blockS {p q : ℕ} (hp : p < 8) (hq : q < 28) {inb} :
    (fun x => xs ((Rect.unit (s := S1x8x28) ![0, p, q] S1x1x1.size inb).idx x)) = fun _ => blockS xs p q := by
  funext x
  show xs _ = xs _
  congr 1
  funext a
  apply Fin.ext
  rw [Rect.idx_unit_val]
  have h2 : (x 2).val < 1 := (x 2).isLt
  have h1 : (x 1).val < 1 := (x 1).isLt
  have h0 : (x 0).val < 1 := (x 0).isLt
  match a with
  | ⟨0, _⟩ => show 0 + (x 0).val = 0; omega
  | ⟨1, _⟩ => show p + (x 1).val = p % 8; omega
  | ⟨2, _⟩ => show q + (x 2).val = q % 28; omega

/-! ## One column tile of a merge -/

theorem mxAt_store {p n : ℕ} {X0 : FVec F S256x128 .f32} (hn : n < 28) {inb}
    {w : (Rect.unit (s := S256x128) ![8 * n, 0] S8x128.size inb).shape.Idx → F .f32}
    (hw : w = maxR xw xs xa xb p n) :
    (Rect.unit (s := S256x128) ![8 * n, 0] S8x128.size inb).overlay (mxAt (maxV xw xs xa xb p) X0 n) w
      = mxAt (maxV xw xs xa xb p) X0 (n + 1) := by
  subst hw
  apply overlay_unit_eq
  · intro x y h
    have h0 : (y 0).val = 8 * n + (x 0).val := h 0
    have h1 : (y 1).val = 0 + (x 1).val := h 1
    have hx : (x 0).val < 8 := (x 0).isLt
    have hd : (y 0).val / 8 = n := by omega
    unfold mxAt
    rw [if_pos (by omega)]
    unfold maxV
    rw [if_pos (by omega), hd]
    congr 1
    funext a
    apply Fin.ext
    match a with
    | ⟨0, _⟩ => show (x 0).val = (y 0).val % 8; omega
    | ⟨1, _⟩ => show (x 1).val = (y 1).val; omega
  · intro y a h
    unfold mxAt
    match a with
    | ⟨0, _⟩ =>
      have h' : (y 0).val < 8 * n ∨ 8 * n + 8 ≤ (y 0).val := h
      by_cases hlt : (y 0).val < 8 * n
      · rw [if_pos hlt, if_pos (by omega)]
      · rw [if_neg hlt, if_neg (by omega)]
    | ⟨1, _⟩ =>
      have h' : (y 1).val < 0 ∨ 0 + 128 ≤ (y 1).val := h
      have : (y 1).val < 128 := (y 1).isLt
      omega

theorem accAt_store {p j : ℕ} {A0 : FVec F S128x3584 .f32} {inb}
    {w : (Rect.unit (s := S128x3584) ![0, 256 * j] S128x256.size inb).shape.Idx → F .f32}
    (hw : w = mergedT xw xs xa xb p j) :
    (Rect.unit (s := S128x3584) ![0, 256 * j] S128x256.size inb).overlay (accAt (mergedV xw xs xa xb p) A0 j) w
      = accAt (mergedV xw xs xa xb p) A0 (j + 1) := by
  subst hw
  apply overlay_unit_eq
  · intro x y h
    have h0 : (y 0).val = 0 + (x 0).val := h 0
    have h1 : (y 1).val = 256 * j + (x 1).val := h 1
    have hx : (x 1).val < 256 := (x 1).isLt
    have hd : (y 1).val / 256 = j := by omega
    unfold accAt
    rw [if_pos (by omega)]
    unfold mergedV
    rw [hd]
    congr 1
    funext a
    apply Fin.ext
    match a with
    | ⟨0, _⟩ => show (x 0).val = (y 0).val; omega
    | ⟨1, _⟩ => show (x 1).val = (y 1).val % 256; omega
  · intro y a h
    unfold accAt
    match a with
    | ⟨0, _⟩ =>
      have h' : (y 0).val < 0 ∨ 0 + 128 ≤ (y 0).val := h
      have : (y 0).val < 128 := (y 0).isLt
      omega
    | ⟨1, _⟩ =>
      have h' : (y 1).val < 256 * j ∨ 256 * j + 256 ≤ (y 1).val := h
      by_cases hlt : (y 1).val < 256 * j
      · rw [if_pos hlt, if_pos (by omega)]
      · rw [if_neg hlt, if_neg (by omega)]

/-- One column tile `j` of the merge of block row `p`: the tile of merged rows is stored, and the partial maxima of its
    two blocks. -/
theorem step_tile (p j : ℕ) (hp : p < 8) (hj : j < 14) {A0 : FVec F S128x3584 .f32} {X0 : FVec F S256x128 .f32}
    {ow os os' oa : Fin 3 → ℕ} {oc om om' : Fin 2 → ℕ} {iw is is' ia ic im im'}
    {hw hs hs' ha hc hm hm'} {xc xm xm'} {yc ym ym'}
    {payA : (S1x128x256.Idx → F .fp8e4m3) → (S1x1x1.Idx → F .f32) → (S1x1x1.Idx → F .f32) → (S1x64x256.Idx → F .bf16) →
      S128x256.Idx → F .f32}
    {payL payR : (S1x128x256.Idx → F .fp8e4m3) → (S1x1x1.Idx → F .f32) → (S1x1x1.Idx → F .f32) →
      (S1x64x256.Idx → F .bf16) → S8x128.Idx → F .f32}
    {rest : (S1x128x256.Idx → F .fp8e4m3) → (S1x1x1.Idx → F .f32) → (S1x1x1.Idx → F .f32) → (S1x64x256.Idx → F .bf16) →
      Prog (TpuEff nD τ sig (Elt F) Λ .tc) PUnit}
    (how : ow = ![0, 128 * p, 256 * j]) (hos : os = ![0, p, 2 * j]) (hos' : os' = ![0, p, 2 * j + 1])
    (hoa : oa = ![0, 0, 256 * j]) (hoc : oc = ![0, 256 * j]) (hom : om = ![8 * (2 * j), 0])
    (hom' : om' = ![8 * (2 * j + 1), 0])
    (hA : payA (tileW xw p j) (fun _ => blockS xs p (2 * j)) (fun _ => blockS xs p (2 * j + 1)) (tileA xa j)
      = shapeCast S128x256 (mergedT xw xs xa xb p j) (by decide))
    (hL : payL (tileW xw p j) (fun _ => blockS xs p (2 * j)) (fun _ => blockS xs p (2 * j + 1)) (tileA xa j)
      = shapeCast S8x128 (rowMaxL (mergedT xw xs xa xb p j)) (by decide))
    (hR : payR (tileW xw p j) (fun _ => blockS xs p (2 * j)) (fun _ => blockS xs p (2 * j + 1)) (tileA xa j)
      = shapeCast S8x128 (rowMaxR (mergedT xw xs xa xb p j)) (by decide))
    (hk : iprop(Inp c mw ms ma mb xw xs xa xb ∗
        Slot c ml mc mm mi L (accAt (mergedV xw xs xa xb p) A0 (j + 1)) (mxAt (maxV xw xs xa xb p) X0 (2 * (j + 1))) V ∗
        Out c mo mt O T ∗ R)
      ⊢ wp frame (wpE defs 𝒱 (c : Thread nD τ) bd) E
        (rest (tileW xw p j) (fun _ => blockS xs p (2 * j)) (fun _ => blockS xs p (2 * j + 1)) (tileA xa j)) Q) :
    iprop(Inp c mw ms ma mb xw xs xa xb ∗
        Slot c ml mc mm mi L (accAt (mergedV xw xs xa xb p) A0 j) (mxAt (maxV xw xs xa xb p) X0 (2 * j)) V ∗
        Out c mo mt O T ∗ R)
      ⊢ wp frame (wpE defs 𝒱 (c : Thread nD τ) bd) E
        (.op (.load mw (Rect.unit (s := S1x1024x3584) ow S1x128x256.size iw).toLoadRect hw) fun (w : Vec F S1x128x256 .fp8e4m3) =>
          .op (.load ms (Rect.unit (s := S1x8x28) os S1x1x1.size is).toLoadRect hs) fun (f : Vec F S1x1x1 .f32) =>
          .op (.load ms (Rect.unit (s := S1x8x28) os' S1x1x1.size is').toLoadRect hs') fun (f' : Vec F S1x1x1 .f32) =>
          .op (.load ma (Rect.unit (s := S1x64x3584) oa S1x64x256.size ia).toLoadRect ha) fun (a : Vec F S1x64x256 .bf16) =>
          .op (.load mc (Rect.unit (s := S128x3584) oc S128x256.size ic).toLoadRect hc) fun _ =>
          .op (.store mc (Rect.unit (s := S128x3584) oc S128x256.size ic) (payA w f f' a) Finset.univ xc yc) fun _ =>
          .op (.load mm (Rect.unit (s := S256x128) om S8x128.size im).toLoadRect hm) fun _ =>
          .op (.store mm (Rect.unit (s := S256x128) om S8x128.size im) (payL w f f' a) Finset.univ xm ym) fun _ =>
          .op (.load mm (Rect.unit (s := S256x128) om' S8x128.size im').toLoadRect hm') fun _ =>
          .op (.store mm (Rect.unit (s := S256x128) om' S8x128.size im') (payR w f f' a) Finset.univ xm' ym') fun _ =>
          rest w f f' a) Q := by
  subst how hos hos' hoa hoc hom hom'
  unfold Inp Slot at *
  iintro ⟨⟨Hw, Hs, Ha, Hb⟩, ⟨Hl, Hc, Hm, Hi⟩, HO, HR⟩
  iapply (wp_load_to 𝒱 (c : Thread nD τ) bd E (load_tileW hp hj)) $$ Hw; iintro Hw
  iapply (wp_load_to 𝒱 (c : Thread nD τ) bd E (load_blockS hp (by omega))) $$ Hs; iintro Hs
  iapply (wp_load_to 𝒱 (c : Thread nD τ) bd E (load_blockS hp (by omega))) $$ Hs; iintro Hs
  iapply (wp_load_to 𝒱 (c : Thread nD τ) bd E (load_tileA hj)) $$ Ha; iintro Ha
  iapply (wp_load_owns 𝒱 (c : Thread nD τ) bd E) $$ Hc; iintro Hc
  iapply (wp_store_to 𝒱 (c : Thread nD τ) bd E (accAt_store (hA.trans (shapeCast_self _ _)))) $$ Hc; iintro Hc
  iapply (wp_load_owns 𝒱 (c : Thread nD τ) bd E) $$ Hm; iintro Hm
  iapply (wp_store_to 𝒱 (c : Thread nD τ) bd E (mxAt_store (by omega) (hL.trans ((shapeCast_self _ _).trans
    (by unfold maxR; rw [if_pos (by omega)]; congr 2; omega))))) $$ Hm; iintro Hm
  iapply (wp_load_owns 𝒱 (c : Thread nD τ) bd E) $$ Hm; iintro Hm
  iapply (wp_store_to 𝒱 (c : Thread nD τ) bd E (mxAt_store (by omega) (hR.trans ((shapeCast_self _ _).trans
    (by unfold maxR; rw [if_neg (by omega)]; congr 2; omega))))) $$ Hm; iintro Hm
  iapply hk
  iframe

/-! ## The head of a merge -/

theorem lhsB_store {p : ℕ} {L0 : FVec F S128x256 .bf16} (hL : ∀ y : S128x256.Idx, 64 ≤ (y 1).val → L0 y = eye y) {inb}
    {w : (Rect.unit (s := S128x256) ![0, 0] S128x64.size inb).shape.Idx → F .bf16}
    (hw : w = headPay (rowsB xb p)) :
    (Rect.unit (s := S128x256) ![0, 0] S128x64.size inb).overlay L0 w = lhsB xb p := by
  subst hw
  apply overlay_unit_eq
  · intro x y h
    have h0 : (y 0).val = 0 + (x 0).val := h 0
    have h1 : (y 1).val = 0 + (x 1).val := h 1
    have hx : (x 1).val < 64 := (x 1).isLt
    unfold lhsB
    rw [dif_pos (by omega)]
    congr 1
    funext a
    apply Fin.ext
    match a with
    | ⟨0, _⟩ => show (x 0).val = (y 0).val; omega
    | ⟨1, _⟩ => show (x 1).val = (y 1).val; omega
  · intro y a h
    unfold lhsB
    match a with
    | ⟨0, _⟩ =>
      have h' : (y 0).val < 0 ∨ 0 + 128 ≤ (y 0).val := h
      have : (y 0).val < 128 := (y 0).isLt
      omega
    | ⟨1, _⟩ =>
      have h' : (y 1).val < 0 ∨ 0 + 64 ≤ (y 1).val := h
      rw [dif_neg (by omega)]
      exact hL y (by omega)

theorem lhsB_eye {p : ℕ} (y : S128x256.Idx) (h : 64 ≤ (y 1).val) : lhsB xb p y = eye y := by
  unfold lhsB
  rw [dif_neg (by omega)]

theorem load_lhsV {p : ℕ} {inb} :
    (fun x => lhsB xb p ((Rect.unit (s := S128x256) ![0, 0] S128x192.size inb).idx x)) = lhsV xb p := by
  funext x
  show lhsB xb p _ = lhsB xb p _
  congr 1
  funext a
  apply Fin.ext
  rw [Rect.idx_unit_val]
  match a with
  | ⟨0, _⟩ => show 0 + (x 0).val = (x 0).val; omega
  | ⟨1, _⟩ => show 0 + (x 1).val = (x 1).val; omega

/-- The head of the merge of block row `p`: the rows of `lora_b` go into the left operand, which is loaded. -/
theorem step_head (p : ℕ) (hp : p < 8) {ob : Fin 3 → ℕ} {o o' o'' : Fin 2 → ℕ} {ib i i' i''} {lb l l''} {x y}
    {payB : (S1x128x64.Idx → F .bf16) → S128x64.Idx → F .bf16}
    {rest : (S128x192.Idx → F .bf16) → Prog (TpuEff nD τ sig (Elt F) Λ .tc) PUnit}
    (hL : ∀ y : S128x256.Idx, 64 ≤ (y 1).val → L y = eye y)
    (hob : ob = ![0, 128 * p, 0]) (ho' : o' = ![0, 0]) (ho'' : o'' = ![0, 0])
    (hB : payB (rowsB xb p) = shapeCast S128x64 (headPay (rowsB xb p)) (by decide))
    (hk : iprop(Inp c mw ms ma mb xw xs xa xb ∗ Slot c ml mc mm mi (lhsB xb p) A X V ∗ Out c mo mt O T ∗ R)
      ⊢ wp frame (wpE defs 𝒱 (c : Thread nD τ) bd) E (rest (lhsV xb p)) Q) :
    iprop(Inp c mw ms ma mb xw xs xa xb ∗ Slot c ml mc mm mi L A X V ∗ Out c mo mt O T ∗ R)
      ⊢ wp frame (wpE defs 𝒱 (c : Thread nD τ) bd) E
        (.op (.load mb (Rect.unit (s := S1x1024x64) ob S1x128x64.size ib).toLoadRect lb) fun (b : Vec F S1x128x64 .bf16) =>
          .op (.load ml (Rect.unit (s := S128x256) o S128x64.size i).toLoadRect l) fun _ =>
          .op (.store ml (Rect.unit (s := S128x256) o' S128x64.size i') (payB b) Finset.univ x y) fun _ =>
          .op (.load ml (Rect.unit (s := S128x256) o'' S128x192.size i'').toLoadRect l'') fun (u : Vec F S128x192 .bf16) =>
          rest u) Q := by
  subst hob ho' ho''
  unfold Inp Slot at *
  iintro ⟨⟨Hw, Hs, Ha, Hb⟩, ⟨Hl, Hc, Hm, Hi⟩, HO, HR⟩
  iapply (wp_load_to 𝒱 (c : Thread nD τ) bd E (load_rowsB hp)) $$ Hb; iintro Hb
  iapply (wp_load_owns 𝒱 (c : Thread nD τ) bd E) $$ Hl; iintro Hl
  iapply (wp_store_to 𝒱 (c : Thread nD τ) bd E (lhsB_store hL (hB.trans (shapeCast_self _ _)))) $$ Hl; iintro Hl
  iapply (wp_load_to 𝒱 (c : Thread nD τ) bd E load_lhsV) $$ Hl; iintro Hl
  iapply hk
  iframe

/-! ## The start: one slot's constant parts -/

theorem overlay_whole2 {n0 n1 : ℕ} {α : Type} {inb} (X Y : (⟨2, ![n0, n1]⟩ : Shape).Idx → α) :
    (Rect.unit (s := ⟨2, ![n0, n1]⟩) ![0, 0] (⟨2, ![n0, n1]⟩ : Shape).size inb).overlay X Y = Y := by
  apply overlay_unit_eq
  · intro x y h
    congr 1
    funext a
    apply Fin.ext
    have := h a
    match a with
    | ⟨0, _⟩ => have h0 : (y 0).val = 0 + (x 0).val := h 0; show (x 0).val = (y 0).val; omega
    | ⟨1, _⟩ => have h0 : (y 1).val = 0 + (x 1).val := h 1; show (x 1).val = (y 1).val; omega
  · intro y a h
    match a with
    | ⟨0, _⟩ =>
      have h' : (y 0).val < 0 ∨ 0 + n0 ≤ (y 0).val := h
      have : (y 0).val < n0 := (y 0).isLt
      omega
    | ⟨1, _⟩ =>
      have h' : (y 1).val < 0 ∨ 0 + n1 ≤ (y 1).val := h
      have : (y 1).val < n1 := (y 1).isLt
      omega

/-- The zero partial maxima. -/
def maxZ : FVec F S256x128 .f32 := broadcast S256x128 (Scalar.ofBits .f32 0x00000000#32 : F .f32)

/-- One slot's start: the left operand's constant part, and zero partial maxima. -/
theorem step_init {o o' m m' : Fin 2 → ℕ} {i i' n n'} {l x y k u v}
    {payL : S128x256.Idx → F .bf16} {payM : S256x128.Idx → F .f32} {rest : Prog (TpuEff nD τ sig (Elt F) Λ .tc) PUnit}
    (ho : o' = ![0, 0]) (hm : m' = ![0, 0]) (hL : payL = shapeCast S128x256 eye (by decide))
    (hM : payM = shapeCast S256x128 maxZ (by decide))
    (hk : iprop(Inp c mw ms ma mb xw xs xa xb ∗ Slot c ml mc mm mi eye A maxZ V ∗ Out c mo mt O T ∗ R)
      ⊢ wp frame (wpE defs 𝒱 (c : Thread nD τ) bd) E rest Q) :
    iprop(Inp c mw ms ma mb xw xs xa xb ∗ Slot c ml mc mm mi L A X V ∗ Out c mo mt O T ∗ R)
      ⊢ wp frame (wpE defs 𝒱 (c : Thread nD τ) bd) E
        (.op (.load ml (Rect.unit (s := S128x256) o S128x256.size i).toLoadRect l) fun _ =>
          .op (.store ml (Rect.unit (s := S128x256) o' S128x256.size i') payL Finset.univ x y) fun _ =>
          .op (.load mm (Rect.unit (s := S256x128) m S256x128.size n).toLoadRect k) fun _ =>
          .op (.store mm (Rect.unit (s := S256x128) m' S256x128.size n') payM Finset.univ u v) fun _ =>
          rest) Q := by
  subst ho hm
  unfold Slot at *
  iintro ⟨HI, ⟨Hl, Hc, Hm, Hi⟩, HO, HR⟩
  iapply (wp_load_owns 𝒱 (c : Thread nD τ) bd E) $$ Hl; iintro Hl
  iapply (wp_store_to 𝒱 (c : Thread nD τ) bd E ((overlay_whole2 _ _).trans (hL.trans (shapeCast_self _ _)))) $$ Hl
  iintro Hl
  iapply (wp_load_owns 𝒱 (c : Thread nD τ) bd E) $$ Hm; iintro Hm
  iapply (wp_store_to 𝒱 (c : Thread nD τ) bd E ((overlay_whole2 _ _).trans (hM.trans (shapeCast_self _ _)))) $$ Hm
  iintro Hm
  iapply hk
  iframe

/-! ## One group of scales -/

theorem load_maxS {p g i : ℕ} (hg : g < 4) (hi : i < 8) {inb} :
    (fun x => maxV xw xs xa xb p ((⟨![64 * g + i, 0], S8x128.size, ![8, 1], inb⟩ : LoadRect S256x128).idx x))
      = maxS xw xs xa xb p g i := by
  funext x
  show maxV xw xs xa xb p _ = maxV xw xs xa xb p _
  congr 1
  funext a
  apply Fin.ext
  have h0 : (x 0).val < 8 := (x 0).isLt
  match a with
  | ⟨0, _⟩ => show 64 * g + i + 8 * (x 0).val = (64 * g + i + 8 * (x 0).val) % 256; omega
  | ⟨1, _⟩ => show 0 + 1 * (x 1).val = (x 1).val; omega

theorem invAt_store {p g : ℕ} {V0 : FVec F S32x128 .f32} {inb}
    {w : (Rect.unit (s := S32x128) ![8 * g, 0] S8x128.size inb).shape.Idx → F .f32}
    (hw : w = invOf (expG xw xs xa xb p g)) :
    (Rect.unit (s := S32x128) ![8 * g, 0] S8x128.size inb).overlay (invAt (invV xw xs xa xb p) V0 g) w
      = invAt (invV xw xs xa xb p) V0 (g + 1) := by
  subst hw
  apply overlay_unit_eq
  · intro x y h
    have h0 : (y 0).val = 8 * g + (x 0).val := h 0
    have h1 : (y 1).val = 0 + (x 1).val := h 1
    have hx : (x 0).val < 8 := (x 0).isLt
    have hd : (y 0).val / 8 = g := by omega
    unfold invAt
    rw [if_pos (by omega)]
    unfold invV
    rw [hd]
    congr 1
    funext a
    apply Fin.ext
    match a with
    | ⟨0, _⟩ => show (x 0).val = (y 0).val % 8; omega
    | ⟨1, _⟩ => show (x 1).val = (y 1).val; omega
  · intro y a h
    unfold invAt
    match a with
    | ⟨0, _⟩ =>
      have h' : (y 0).val < 8 * g ∨ 8 * g + 8 ≤ (y 0).val := h
      by_cases hlt : (y 0).val < 8 * g
      · rw [if_pos hlt, if_pos (by omega)]
      · rw [if_neg hlt, if_neg (by omega)]
    | ⟨1, _⟩ =>
      have h' : (y 1).val < 0 ∨ 0 + 128 ≤ (y 1).val := h
      have : (y 1).val < 128 := (y 1).isLt
      omega

/-- Group `g` of the scales of block row `p`: the partial maxima are read, the inverse scales stored. -/
theorem step_group (p g : ℕ) (hg : g < 4) {V0 : FVec F S32x128 .f32}
    {o0 o1 o2 o3 o4 o5 o6 o7 oi oi' : Fin 2 → ℕ} {b0 b1 b2 b3 b4 b5 b6 b7 bi bi'}
    {l0 l1 l2 l3 l4 l5 l6 l7 li x y}
    {pay : (S8x128.Idx → F .f32) → (S8x128.Idx → F .f32) → (S8x128.Idx → F .f32) → (S8x128.Idx → F .f32) → (S8x128.Idx → F .f32) → (S8x128.Idx → F .f32) → (S8x128.Idx → F .f32) → (S8x128.Idx → F .f32) → S8x128.Idx → F .f32}
    {rest : (S8x128.Idx → F .f32) → (S8x128.Idx → F .f32) → (S8x128.Idx → F .f32) → (S8x128.Idx → F .f32) → (S8x128.Idx → F .f32) → (S8x128.Idx → F .f32) → (S8x128.Idx → F .f32) → (S8x128.Idx → F .f32) →
      Prog (TpuEff nD τ sig (Elt F) Λ .tc) PUnit}
    (h0 : o0 = ![64 * g + 0, 0]) (h1 : o1 = ![64 * g + 1, 0]) (h2 : o2 = ![64 * g + 2, 0]) (h3 : o3 = ![64 * g + 3, 0]) (h4 : o4 = ![64 * g + 4, 0]) (h5 : o5 = ![64 * g + 5, 0]) (h6 : o6 = ![64 * g + 6, 0]) (h7 : o7 = ![64 * g + 7, 0]) (hi : oi' = ![8 * g, 0])
    (hP : pay (maxS xw xs xa xb p g 0) (maxS xw xs xa xb p g 1) (maxS xw xs xa xb p g 2) (maxS xw xs xa xb p g 3) (maxS xw xs xa xb p g 4) (maxS xw xs xa xb p g 5) (maxS xw xs xa xb p g 6) (maxS xw xs xa xb p g 7)
      = shapeCast S8x128 (invOf (expG xw xs xa xb p g)) (by decide))
    (hk : iprop(Inp c mw ms ma mb xw xs xa xb ∗
        Slot c ml mc mm mi L A (maxV xw xs xa xb p) (invAt (invV xw xs xa xb p) V0 (g + 1)) ∗ Out c mo mt O T ∗ R)
      ⊢ wp frame (wpE defs 𝒱 (c : Thread nD τ) bd) E
        (rest (maxS xw xs xa xb p g 0) (maxS xw xs xa xb p g 1) (maxS xw xs xa xb p g 2) (maxS xw xs xa xb p g 3) (maxS xw xs xa xb p g 4) (maxS xw xs xa xb p g 5) (maxS xw xs xa xb p g 6) (maxS xw xs xa xb p g 7)) Q) :
    iprop(Inp c mw ms ma mb xw xs xa xb ∗
        Slot c ml mc mm mi L A (maxV xw xs xa xb p) (invAt (invV xw xs xa xb p) V0 g) ∗ Out c mo mt O T ∗ R)
      ⊢ wp frame (wpE defs 𝒱 (c : Thread nD τ) bd) E
        (.op (.load mm (⟨o0, S8x128.size, ![8, 1], b0⟩ : LoadRect S256x128) l0) fun (v0 : Vec F S8x128 .f32) =>
          .op (.load mm (⟨o1, S8x128.size, ![8, 1], b1⟩ : LoadRect S256x128) l1) fun (v1 : Vec F S8x128 .f32) =>
          .op (.load mm (⟨o2, S8x128.size, ![8, 1], b2⟩ : LoadRect S256x128) l2) fun (v2 : Vec F S8x128 .f32) =>
          .op (.load mm (⟨o3, S8x128.size, ![8, 1], b3⟩ : LoadRect S256x128) l3) fun (v3 : Vec F S8x128 .f32) =>
          .op (.load mm (⟨o4, S8x128.size, ![8, 1], b4⟩ : LoadRect S256x128) l4) fun (v4 : Vec F S8x128 .f32) =>
          .op (.load mm (⟨o5, S8x128.size, ![8, 1], b5⟩ : LoadRect S256x128) l5) fun (v5 : Vec F S8x128 .f32) =>
          .op (.load mm (⟨o6, S8x128.size, ![8, 1], b6⟩ : LoadRect S256x128) l6) fun (v6 : Vec F S8x128 .f32) =>
          .op (.load mm (⟨o7, S8x128.size, ![8, 1], b7⟩ : LoadRect S256x128) l7) fun (v7 : Vec F S8x128 .f32) =>
          .op (.load mi (Rect.unit (s := S32x128) oi S8x128.size bi).toLoadRect li) fun _ =>
          .op (.store mi (Rect.unit (s := S32x128) oi' S8x128.size bi') (pay v0 v1 v2 v3 v4 v5 v6 v7) Finset.univ x y) fun _ =>
          rest v0 v1 v2 v3 v4 v5 v6 v7) Q := by
  subst h0 h1 h2 h3 h4 h5 h6 h7 hi
  unfold Slot at *
  iintro ⟨HI, ⟨Hl, Hc, Hm, Hi⟩, HO, HR⟩
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_to 𝒱 (c : Thread nD τ) bd E (load_maxS hg (by omega))) $$ Hm; iintro Hm
  iapply (wp_load_owns 𝒱 (c : Thread nD τ) bd E) $$ Hi; iintro Hi
  iapply (wp_store_to 𝒱 (c : Thread nD τ) bd E (invAt_store (hP.trans (shapeCast_self _ _)))) $$ Hi; iintro Hi
  iapply hk
  iframe

/-! ## A row of scales -/

theorem soutAt_store {p : ℕ} {T0 : FVec F S1x8x28 .f32} {inb}
    {w : (Rect.unit (s := S1x8x28) ![0, p, 0] S1x1x28.size inb).shape.Idx → F .f32}
    (hw : w = scaleR xw xs xa xb p) :
    (Rect.unit (s := S1x8x28) ![0, p, 0] S1x1x28.size inb).overlay (soutAt (scalesV xw xs xa xb) T0 p) w
      = soutAt (scalesV xw xs xa xb) T0 (p + 1) := by
  subst hw
  apply overlay_unit_eq
  · intro x y h
    have h1 : (y 1).val = p + (x 1).val := h 1
    have h2 : (y 2).val = 0 + (x 2).val := h 2
    have hx : (x 1).val < 1 := (x 1).isLt
    have hx0 : (x 0).val < 1 := (x 0).isLt
    have hd : (y 1).val = p := by omega
    unfold soutAt
    rw [if_pos (by omega)]
    unfold scalesV
    rw [hd]
    congr 1
    funext a
    apply Fin.ext
    match a with
    | ⟨0, _⟩ => show (x 0).val = 0; omega
    | ⟨1, _⟩ => show (x 1).val = 0; omega
    | ⟨2, _⟩ => show (x 2).val = (y 2).val; omega
  · intro y a h
    unfold soutAt
    match a with
    | ⟨0, _⟩ =>
      have h' : (y 0).val < 0 ∨ 0 + 1 ≤ (y 0).val := h
      have : (y 0).val < 1 := (y 0).isLt
      omega
    | ⟨1, _⟩ =>
      have h' : (y 1).val < p ∨ p + 1 ≤ (y 1).val := h
      by_cases hlt : (y 1).val < p
      · rw [if_pos hlt, if_pos (by omega)]
      · rw [if_neg hlt, if_neg (by omega)]
    | ⟨2, _⟩ =>
      have h' : (y 2).val < 0 ∨ 0 + 28 ≤ (y 2).val := h
      have : (y 2).val < 28 := (y 2).isLt
      omega

/-- The scales of block row `p` are stored. -/
theorem step_srow (p : ℕ) {T0 : FVec F S1x8x28 .f32} {o o' : Fin 3 → ℕ} {i i'} {l x y}
    {pay : S1x1x28.Idx → F .f32} {rest : (S1x1x28.Idx → F .f32) → PUnit → Prog (TpuEff nD τ sig (Elt F) Λ .tc) PUnit}
    (ho : o' = ![0, p, 0]) (hP : pay = scaleR xw xs xa xb p)
    (hk : ∀ a, iprop(Inp c mw ms ma mb xw xs xa xb ∗ Slot c ml mc mm mi L A X V ∗
        Out c mo mt O (soutAt (scalesV xw xs xa xb) T0 (p + 1)) ∗ R)
      ⊢ wp frame (wpE defs 𝒱 (c : Thread nD τ) bd) E (rest a ⟨⟩) Q) :
    iprop(Inp c mw ms ma mb xw xs xa xb ∗ Slot c ml mc mm mi L A X V ∗
        Out c mo mt O (soutAt (scalesV xw xs xa xb) T0 p) ∗ R)
      ⊢ wp frame (wpE defs 𝒱 (c : Thread nD τ) bd) E
        (.op (.load mt (Rect.unit (s := S1x8x28) o S1x1x28.size i).toLoadRect l) fun (a : S1x1x28.Idx → F .f32) =>
          .op (.store mt (Rect.unit (s := S1x8x28) o' S1x1x28.size i') pay Finset.univ x y) fun u =>
          rest a u) Q := by
  subst ho
  unfold Out at *
  iintro ⟨HI, HS, ⟨Ho, Ht⟩, HR⟩
  iapply (wp_load_owns 𝒱 (c : Thread nD τ) bd E) $$ Ht; iintro Ht
  iapply (wp_store_to 𝒱 (c : Thread nD τ) bd E (soutAt_store hP)) $$ Ht; iintro Ht
  iapply (hk _)
  iframe

/-! ## One block of codes -/

theorem outAt_store {p q : ℕ} {O0 : FVec F S1x1024x3584 .fp8e4m3} {inb}
    {w : (Rect.unit (s := S1x1024x3584) ![0, 128 * p, 128 * q] S1x128x128.size inb).shape.Idx → F .fp8e4m3}
    (hw : w = codesB xw xs xa xb p q) :
    (Rect.unit (s := S1x1024x3584) ![0, 128 * p, 128 * q] S1x128x128.size inb).overlay
        (outAt (codesV xw xs xa xb) O0 p q) w
      = outAt (codesV xw xs xa xb) O0 p (q + 1) := by
  subst hw
  apply overlay_unit_eq
  · intro x y h
    have h1 : (y 1).val = 128 * p + (x 1).val := h 1
    have h2 : (y 2).val = 128 * q + (x 2).val := h 2
    have hx : (x 1).val < 128 := (x 1).isLt
    have hx2 : (x 2).val < 128 := (x 2).isLt
    have hx0 : (x 0).val < 1 := (x 0).isLt
    have hd : (y 1).val / 128 = p := by omega
    have hd2 : (y 2).val / 128 = q := by omega
    unfold outAt
    rw [if_pos (by omega)]
    unfold codesV
    rw [hd, hd2]
    congr 1
    funext a
    apply Fin.ext
    match a with
    | ⟨0, _⟩ => show (x 0).val = 0; omega
    | ⟨1, _⟩ => show (x 1).val = (y 1).val % 128; omega
    | ⟨2, _⟩ => show (x 2).val = (y 2).val % 128; omega
  · intro y a h
    unfold outAt
    have hc : ((y 1).val < 128 * p ∨ ((y 1).val < 128 * (p + 1) ∧ (y 2).val < 128 * q)) ↔
        ((y 1).val < 128 * p ∨ ((y 1).val < 128 * (p + 1) ∧ (y 2).val < 128 * (q + 1))) := by
      match a with
      | ⟨0, _⟩ =>
        have h' : (y 0).val < 0 ∨ 0 + 1 ≤ (y 0).val := h
        have : (y 0).val < 1 := (y 0).isLt
        omega
      | ⟨1, _⟩ =>
        have h' : (y 1).val < 128 * p ∨ 128 * p + 128 ≤ (y 1).val := h
        omega
      | ⟨2, _⟩ =>
        have h' : (y 2).val < 128 * q ∨ 128 * q + 128 ≤ (y 2).val := h
        omega
    simp only [hc]

theorem load_accQ {p q : ℕ} (hq : q < 28) {inb} :
    (fun x => mergedV xw xs xa xb p ((Rect.unit (s := S128x3584) ![0, 128 * q] S128x128.size inb).idx x))
      = fun x : S128x128.Idx => mergedV xw xs xa xb p (ix2 (x 0) ⟨(128 * q + (x 1).val) % 3584, Nat.mod_lt _ (by decide)⟩) := by
  funext x
  congr 1
  funext a
  apply Fin.ext
  rw [Rect.idx_unit_val]
  have h1 : (x 1).val < 128 := (x 1).isLt
  match a with
  | ⟨0, _⟩ => show 0 + (x 0).val = (x 0).val; omega
  | ⟨1, _⟩ => show 128 * q + (x 1).val = (128 * q + (x 1).val) % 3584; omega

theorem load_invQ {p q : ℕ} (hq : q < 28) {inb} :
    (fun x => invV xw xs xa xb p ((Rect.unit (s := S32x128) ![q, 0] S1x128.size inb).idx x))
      = fun x : S1x128.Idx => invV xw xs xa xb p (ix2 ⟨q % 32, Nat.mod_lt _ (by decide)⟩ (x 1)) := by
  funext x
  congr 1
  funext a
  apply Fin.ext
  rw [Rect.idx_unit_val]
  have h1 : (x 0).val < 1 := (x 0).isLt
  match a with
  | ⟨0, _⟩ => show q + (x 0).val = q % 32; omega
  | ⟨1, _⟩ => show 0 + (x 1).val = (x 1).val; omega

/-- Block `q` of block row `p`: its codes are stored. -/
theorem step_quant (p q : ℕ) (hq : q < 28) {O0 : FVec F S1x1024x3584 .fp8e4m3}
    {oa oi : Fin 2 → ℕ} {o o' : Fin 3 → ℕ} {ia ii i i'} {la li l x y}
    {pay : (S128x128.Idx → F .f32) → (S1x128.Idx → F .f32) → S1x128x128.Idx → F .fp8e4m3}
    {rest : Prog (TpuEff nD τ sig (Elt F) Λ .tc) PUnit}
    (hoa : oa = ![0, 128 * q]) (hoi : oi = ![q, 0]) (ho : o' = ![0, 128 * p, 128 * q])
    (hP : ∀ u v, pay u v = quantPay u v)
    (hk : iprop(Inp c mw ms ma mb xw xs xa xb ∗ Slot c ml mc mm mi L (mergedV xw xs xa xb p) X (invV xw xs xa xb p) ∗
        Out c mo mt (outAt (codesV xw xs xa xb) O0 p (q + 1)) T ∗ R)
      ⊢ wp frame (wpE defs 𝒱 (c : Thread nD τ) bd) E rest Q) :
    iprop(Inp c mw ms ma mb xw xs xa xb ∗ Slot c ml mc mm mi L (mergedV xw xs xa xb p) X (invV xw xs xa xb p) ∗
        Out c mo mt (outAt (codesV xw xs xa xb) O0 p q) T ∗ R)
      ⊢ wp frame (wpE defs 𝒱 (c : Thread nD τ) bd) E
        (.op (.load mc (Rect.unit (s := S128x3584) oa S128x128.size ia).toLoadRect la) fun (u : Vec F S128x128 .f32) =>
          .op (.load mi (Rect.unit (s := S32x128) oi S1x128.size ii).toLoadRect li) fun (v : Vec F S1x128 .f32) =>
          .op (.load mo (Rect.unit (s := S1x1024x3584) o S1x128x128.size i).toLoadRect l) fun _ =>
          .op (.store mo (Rect.unit (s := S1x1024x3584) o' S1x128x128.size i') (pay u v) Finset.univ x y) fun _ =>
          rest) Q := by
  subst hoa hoi ho
  unfold Slot Out at *
  iintro ⟨HI, ⟨Hl, Hc, Hm, Hi⟩, ⟨Ho, Ht⟩, HR⟩
  iapply (wp_load_to 𝒱 (c : Thread nD τ) bd E (load_accQ hq)) $$ Hc; iintro Hc
  iapply (wp_load_to 𝒱 (c : Thread nD τ) bd E (load_invQ hq)) $$ Hi; iintro Hi
  iapply (wp_load_owns 𝒱 (c : Thread nD τ) bd E) $$ Ho; iintro Ho
  iapply (wp_store_to 𝒱 (c : Thread nD τ) bd E (outAt_store (hP _ _))) $$ Ho; iintro Ho
  iapply hk
  iframe

/-! ## The loop, and the end -/

/-- A counted loop inside three sequences, by an invariant. -/
theorem step_loop {lb ub st : BitVec 32} {hok : Scf.OK lb ub st} {β1 β2 : Type}
    {body : Fin (Scf.trips lb ub st) → PUnit → Prog (TpuEff nD τ sig (Elt F) Λ .tc) PUnit}
    {k1 : PUnit → Prog (TpuEff nD τ sig (Elt F) Λ .tc) β1} {k2 : β1 → Prog (TpuEff nD τ sig (Elt F) Λ .tc) β2}
    {k3 : β2 → Prog (TpuEff nD τ sig (Elt F) Λ .tc) PUnit}
    (I : ℕ → sProp (MT nD τ sig Ix (Elt F) Name U Lvl)) {P : sProp (MT nD τ sig Ix (Elt F) Name U Lvl)}
    (hbody : ∀ k : Fin (Scf.trips lb ub st),
      I k.val ⊢ wp frame (wpE defs 𝒱 (c : Thread nD τ) bd) E (body k ⟨⟩) (fun _ => I (k.val + 1)))
    (h0 : P ⊢ I 0) {n : ℕ} (hn : Scf.trips lb ub st = n)
    (hk : I n ⊢ wp frame (wpE defs 𝒱 (c : Thread nD τ) bd) E ((k1 ⟨⟩ >>= k2) >>= k3) Q) :
    P ⊢ wp frame (wpE defs 𝒱 (c : Thread nD τ) bd) E (((Scf.for lb ub st hok PUnit.unit body >>= k1) >>= k2) >>= k3) Q := by
  subst hn
  rw [bind_assoc] at hk
  rw [bind_assoc, bind_assoc]
  refine h0.trans ?_
  iintro H
  iapply (Scf.wp_for_bind frame (wpE defs 𝒱 (c : Thread nD τ) bd) E lb ub st hok PUnit.unit body (fun n _ => I n)
    (fun k _ => hbody k)) $$ H
  iintro %_ H
  iapply hk $$ H

/-- The end of a program. -/
theorem wp_done {P : sProp (MT nD τ sig Ix (Elt F) Name U Lvl)} (h : P ⊢ Q ⟨⟩) :
    P ⊢ wp frame (wpE defs 𝒱 (c : Thread nD τ) bd) E (.ret ⟨⟩) Q := by
  rw [wp_ret]
  iintro H
  imodintro
  iapply h $$ H

/-! ## From one step to the next -/

theorem accAt_zero {α : Type} (V A : S128x3584.Idx → α) : accAt V A 0 = A := by
  funext y; unfold accAt; rw [if_neg (by omega)]
theorem accAt_all {α : Type} (V A : S128x3584.Idx → α) : accAt V A 14 = V := by
  funext y; unfold accAt; have : (y 1).val < 3584 := (y 1).isLt; rw [if_pos (by omega)]
theorem invAt_zero {α : Type} (V A : S32x128.Idx → α) : invAt V A 0 = A := by
  funext y; unfold invAt; rw [if_neg (by omega)]
theorem invAt_all {α : Type} (V A : S32x128.Idx → α) : invAt V A 4 = V := by
  funext y; unfold invAt; have : (y 0).val < 32 := (y 0).isLt; rw [if_pos (by omega)]
theorem mxAt_zero {α : Type} (V A : S256x128.Idx → α) : mxAt V A 0 = A := by
  funext y; unfold mxAt; rw [if_neg (by omega)]
/-- Contents whose rows beyond the 28 blocks are zero. -/
def ZeroTail (X : FVec F S256x128 .f32) : Prop :=
  ∀ y : S256x128.Idx, 224 ≤ (y 0).val → X y = Scalar.ofBits .f32 0x00000000#32

theorem zeroTail_maxZ : ZeroTail (F := F) maxZ := fun _ _ => rfl
theorem zeroTail_maxV {p : ℕ} : ZeroTail (maxV xw xs xa xb p) := fun y h => by
  unfold maxV; rw [if_neg (by omega)]
theorem mxAt_all {p : ℕ} {X : FVec F S256x128 .f32} (h : ZeroTail X) :
    mxAt (maxV xw xs xa xb p) X 28 = maxV xw xs xa xb p := by
  funext y
  unfold mxAt
  by_cases hy : (y 0).val < 224
  · rw [if_pos (by omega)]
  · rw [if_neg (by omega), h y (by omega)]; unfold maxV; rw [if_neg hy]
theorem outAt_zero {α : Type} (V A : S1x1024x3584.Idx → α) : outAt V A 0 0 = A := by
  funext y; unfold outAt; rw [if_neg (by omega)]
theorem outAt_row {α : Type} (V A : S1x1024x3584.Idx → α) (p : ℕ) : outAt V A p 28 = outAt V A (p + 1) 0 := by
  funext y; unfold outAt; have : (y 2).val < 3584 := (y 2).isLt
  have hc : ((y 1).val < 128 * p ∨ ((y 1).val < 128 * (p + 1) ∧ (y 2).val < 128 * 28)) ↔
    ((y 1).val < 128 * (p + 1) ∨ ((y 1).val < 128 * (p + 1 + 1) ∧ (y 2).val < 128 * 0)) := by omega
  simp only [hc]
theorem outAt_all {α : Type} (V A : S1x1024x3584.Idx → α) : outAt V A 8 0 = V := by
  funext y; unfold outAt; have : (y 1).val < 1024 := (y 1).isLt; rw [if_pos (by omega)]
theorem soutAt_zero {α : Type} (V A : S1x8x28.Idx → α) : soutAt V A 0 = A := by
  funext y; unfold soutAt; rw [if_neg (by omega)]
theorem soutAt_all {α : Type} (V A : S1x8x28.Idx → α) : soutAt V A 8 = V := by
  funext y; unfold soutAt; have : (y 1).val < 8 := (y 1).isLt; rw [if_pos (by omega)]

/-- The two slots change places. -/
theorem swap_slots {P1 P2 P3 P4 W : sProp (MT nD τ sig Ix (Elt F) Name U Lvl)}
    (h : iprop(P1 ∗ P4 ∗ P3 ∗ P2) ⊢ W) : iprop(P1 ∗ P2 ∗ P3 ∗ P4) ⊢ W := by
  iintro ⟨H1, H2, H3, H4⟩
  iapply h
  iframe

end Cert.Lora

end
-- ==== Proof.KernelBody.lean ====
module
public import proofs.«01_k».proof.Proof.Steps
public import proofs.«01_k».proof.Proof.Gen.Kernel.Skeleton

/-! # One grid step of `Kernel`

The kernel's body on one matrix. Its two sets of scratch buffers take turns: while one holds a row of blocks
just merged, the row merged before it, in the other, is divided by its scales and written out. The body is
walked by the step lemmas of `Steps`: every row of 128 is merged (14 tiles), its scales are found (4 groups)
and its codes are written (28 blocks), and `Values` names what each leaves. -/

@[expose] public section
set_option maxRecDepth 65536
noncomputable section
namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Lora
variable {F : FTy → Type} [FloatOps F]
local notation "𝕄" => MT nD τ sig Unit (Elt F) ℕ (UR sig nD τ) ℕ

set_option maxHeartbeats 40000000 in
/-- One trip of the loop, from row 2k of blocks merged and scaled in the first set of buffers to row 2k+2:
    rows 2k and 2k+1 of the codes and rows 2k+1 and 2k+2 of the scales are written on the way. -/
theorem loop_body (c : Dev nD) (E : Set ℕ) (i : grid0.Coords) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) (v537 : IVec S8x128 32) (v859 : FVec F S8x128 .f32) (v953 : FVec F S8x128 .f32) (v958 : FVec F S8x128 .f32) (cst_389 : F .f32)
    (k : Fin k0_t1_loop.trips) {xw xs xa xb} {L A X V O T} {Q : PUnit → sProp 𝕄}
    (hL : ∀ y : S128x256.Idx, 64 ≤ (y 1).val → L y = eye y) (hX : ZeroTail X)
    (hQ : iprop(Inp c arg1 arg2 arg3 arg4 xw xs xa xb ∗ Slot c arg7 arg9 arg11 arg13 (lhsB xb (2 * k.val + 2)) (mergedV xw xs xa xb (2 * k.val + 2)) (maxV xw xs xa xb (2 * k.val + 2)) (invV xw xs xa xb (2 * k.val + 2)) ∗ Out c arg5 arg6 (outAt (codesV xw xs xa xb) O (2 * k.val + 2) 0) (soutAt (scalesV xw xs xa xb) T (2 * k.val + 2 + 1)) ∗ Slot c arg8 arg10 arg12 arg14 (lhsB xb (2 * k.val + 1)) (mergedV xw xs xa xb (2 * k.val + 1)) (maxV xw xs xa xb (2 * k.val + 1)) (invV xw xs xa xb (2 * k.val + 1))) ⊢ Q ⟨⟩) :
    iprop(Inp c arg1 arg2 arg3 arg4 xw xs xa xb ∗ Slot c arg7 arg9 arg11 arg13 (lhsB xb (2 * k.val)) (mergedV xw xs xa xb (2 * k.val)) (maxV xw xs xa xb (2 * k.val)) (invV xw xs xa xb (2 * k.val)) ∗ Out c arg5 arg6 (outAt (codesV xw xs xa xb) O (2 * k.val) 0) (soutAt (scalesV xw xs xa xb) T (2 * k.val + 1)) ∗ Slot c arg8 arg10 arg12 arg14 L A X V)
      ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 arg12 harg12 arg13 harg13 arg14 harg14 v537 v859 v953 v958 cst_389 k ()) Q := by
  have hk : k.val < 3 := k.isLt
  have hp1 : 2 * k.val + 1 < 8 := by omega
  have hp2 : 2 * k.val + 2 < 8 := by omega
  unfold k0_t1_body
  refine swap_slots ?_
  refine step_head (2 * k.val + 1) hp1 hL (by first | rfl | (clear * -; revert k; decide)) (by rfl) (by rfl) (by rfl) ?_
  rw [← accAt_zero (mergedV xw xs xa xb (2 * k.val + 1)) A, ← mxAt_zero (maxV xw xs xa xb (2 * k.val + 1)) X]
  iterate 14
    refine step_tile (2 * k.val + 1) _ hp1 (by decide) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by rfl) (by rfl) (by rfl) ?_
  rw [accAt_all, mxAt_all hX]
  refine swap_slots ?_
  iterate 28
    refine step_quant (2 * k.val) _ (by decide) (by rfl) (by rfl) (by first | rfl | (clear * -; revert k; decide)) (fun _ _ => by rfl) ?_
  rw [outAt_row]
  refine swap_slots ?_
  rw [← invAt_zero (invV xw xs xa xb (2 * k.val + 1)) V]
  iterate 4
    refine step_group (2 * k.val + 1) _ (by decide) (by rfl) (by rfl) (by rfl) (by rfl) (by rfl) (by rfl) (by rfl) (by rfl) (by rfl) (by rfl) ?_
  rw [invAt_all]
  refine step_srow (2 * k.val + 1) (by first | rfl | (clear * -; revert k; decide)) (by rfl) (fun _ => ?_)
  refine swap_slots ?_
  refine step_head (2 * k.val + 2) hp2 lhsB_eye (by first | rfl | (clear * -; revert k; decide)) (by rfl) (by rfl) (by rfl) ?_
  rw [← accAt_zero (mergedV xw xs xa xb (2 * k.val + 2)) (mergedV xw xs xa xb (2 * k.val)), ← mxAt_zero (maxV xw xs xa xb (2 * k.val + 2)) (maxV xw xs xa xb (2 * k.val))]
  iterate 14
    refine step_tile (2 * k.val + 2) _ hp2 (by decide) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by rfl) (by rfl) (by rfl) ?_
  rw [accAt_all, mxAt_all zeroTail_maxV]
  refine swap_slots ?_
  iterate 28
    refine step_quant (2 * k.val + 1) _ (by decide) (by rfl) (by rfl) (by first | rfl | (clear * -; revert k; decide)) (fun _ _ => by rfl) ?_
  rw [outAt_row]
  refine swap_slots ?_
  rw [← invAt_zero (invV xw xs xa xb (2 * k.val + 2)) (invV xw xs xa xb (2 * k.val))]
  iterate 4
    refine step_group (2 * k.val + 2) _ (by decide) (by rfl) (by rfl) (by rfl) (by rfl) (by rfl) (by rfl) (by rfl) (by rfl) (by rfl) (by rfl) ?_
  rw [invAt_all]
  refine step_srow (2 * k.val + 2) (by first | rfl | (clear * -; revert k; decide)) (by rfl) (fun _ => ?_)
  exact wp_done hQ

/-- What holds before trip k: row 2k is merged and scaled in the first set of buffers, the rows before it are written
    out, and the second set is as a merge needs it: the identity right of its left operand, zeros below its maxima. -/
def inv (c : Dev nD) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) (xw : S1x1024x3584.Idx → F .fp8e4m3) (xs : S1x8x28.Idx → F .f32) (xa : S1x64x3584.Idx → F .bf16) (xb : S1x1024x64.Idx → F .bf16)
    (O : FVec F S1x1024x3584 .fp8e4m3) (T : FVec F S1x8x28 .f32) (n : ℕ) : sProp 𝕄 :=
  iprop(∃ (L : FVec F S128x256 .bf16) (A : FVec F S128x3584 .f32) (X : FVec F S256x128 .f32) (V : FVec F S32x128 .f32),
    ⌜(∀ y : S128x256.Idx, 64 ≤ (y 1).val → L y = eye y) ∧ ZeroTail X⌝ ∗
    Inp c arg1 arg2 arg3 arg4 xw xs xa xb ∗ Slot c arg7 arg9 arg11 arg13 (lhsB xb (2 * n)) (mergedV xw xs xa xb (2 * n)) (maxV xw xs xa xb (2 * n)) (invV xw xs xa xb (2 * n)) ∗ Out c arg5 arg6 (outAt (codesV xw xs xa xb) O (2 * n) 0) (soutAt (scalesV xw xs xa xb) T (2 * n + 1)) ∗ Slot c arg8 arg10 arg12 arg14 L A X V)

/-- To prove something from the invariant is to prove it for any contents of the second set of buffers. -/
theorem inv_elim {c : Dev nD} {arg1 : Memref sig .tc .vmem S1x1024x3584 .fp8e4m3} {harg1 : arg1.IsWhole} {arg2 : Memref sig .tc .smem S1x8x28 .f32} {harg2 : arg2.IsWhole} {arg3 : Memref sig .tc .vmem S1x64x3584 .bf16} {harg3 : arg3.IsWhole} {arg4 : Memref sig .tc .vmem S1x1024x64 .bf16} {harg4 : arg4.IsWhole} {arg5 : Memref sig .tc .vmem S1x1024x3584 .fp8e4m3} {harg5 : arg5.IsWhole} {arg6 : Memref sig .tc .vmem S1x8x28 .f32} {harg6 : arg6.IsWhole} {arg7 : Memref sig .tc .vmem S128x256 .bf16} {harg7 : arg7.IsWhole} {arg8 : Memref sig .tc .vmem S128x256 .bf16} {harg8 : arg8.IsWhole} {arg9 : Memref sig .tc .vmem S128x3584 .f32} {harg9 : arg9.IsWhole} {arg10 : Memref sig .tc .vmem S128x3584 .f32} {harg10 : arg10.IsWhole} {arg11 : Memref sig .tc .vmem S256x128 .f32} {harg11 : arg11.IsWhole} {arg12 : Memref sig .tc .vmem S256x128 .f32} {harg12 : arg12.IsWhole} {arg13 : Memref sig .tc .vmem S32x128 .f32} {harg13 : arg13.IsWhole} {arg14 : Memref sig .tc .vmem S32x128 .f32} {harg14 : arg14.IsWhole} {xw xs xa xb O T n} {W : sProp 𝕄}
    (h : ∀ (L : FVec F S128x256 .bf16) (A : FVec F S128x3584 .f32) (X : FVec F S256x128 .f32) (V : FVec F S32x128 .f32),
      (∀ y : S128x256.Idx, 64 ≤ (y 1).val → L y = eye y) → ZeroTail X →
      (iprop(Inp c arg1 arg2 arg3 arg4 xw xs xa xb ∗ Slot c arg7 arg9 arg11 arg13 (lhsB xb (2 * n)) (mergedV xw xs xa xb (2 * n)) (maxV xw xs xa xb (2 * n)) (invV xw xs xa xb (2 * n)) ∗ Out c arg5 arg6 (outAt (codesV xw xs xa xb) O (2 * n) 0) (soutAt (scalesV xw xs xa xb) T (2 * n + 1)) ∗ Slot c arg8 arg10 arg12 arg14 L A X V) ⊢ W)) :
    inv c arg1 harg1 arg2 harg2 arg3 harg3 arg4 harg4 arg5 harg5 arg6 harg6 arg7 harg7 arg8 harg8 arg9 harg9 arg10 harg10 arg11 harg11 arg12 harg12 arg13 harg13 arg14 harg14 xw xs xa xb O T n ⊢ W := by
  unfold inv
  iintro ⟨%L, %A, %X, %V, %hh, H⟩
  iapply (h L A X V hh.1 hh.2) $$ H

/-- The invariant, from any contents of the second set of buffers that a merge can start from. -/
theorem inv_intro {c : Dev nD} {arg1 : Memref sig .tc .vmem S1x1024x3584 .fp8e4m3} {harg1 : arg1.IsWhole} {arg2 : Memref sig .tc .smem S1x8x28 .f32} {harg2 : arg2.IsWhole} {arg3 : Memref sig .tc .vmem S1x64x3584 .bf16} {harg3 : arg3.IsWhole} {arg4 : Memref sig .tc .vmem S1x1024x64 .bf16} {harg4 : arg4.IsWhole} {arg5 : Memref sig .tc .vmem S1x1024x3584 .fp8e4m3} {harg5 : arg5.IsWhole} {arg6 : Memref sig .tc .vmem S1x8x28 .f32} {harg6 : arg6.IsWhole} {arg7 : Memref sig .tc .vmem S128x256 .bf16} {harg7 : arg7.IsWhole} {arg8 : Memref sig .tc .vmem S128x256 .bf16} {harg8 : arg8.IsWhole} {arg9 : Memref sig .tc .vmem S128x3584 .f32} {harg9 : arg9.IsWhole} {arg10 : Memref sig .tc .vmem S128x3584 .f32} {harg10 : arg10.IsWhole} {arg11 : Memref sig .tc .vmem S256x128 .f32} {harg11 : arg11.IsWhole} {arg12 : Memref sig .tc .vmem S256x128 .f32} {harg12 : arg12.IsWhole} {arg13 : Memref sig .tc .vmem S32x128 .f32} {harg13 : arg13.IsWhole} {arg14 : Memref sig .tc .vmem S32x128 .f32} {harg14 : arg14.IsWhole} {xw xs xa xb O T n}
    {L : FVec F S128x256 .bf16} {A : FVec F S128x3584 .f32} {X : FVec F S256x128 .f32} {V : FVec F S32x128 .f32}
    (hL : ∀ y : S128x256.Idx, 64 ≤ (y 1).val → L y = eye y) (hX : ZeroTail X) :
    (iprop(Inp c arg1 arg2 arg3 arg4 xw xs xa xb ∗ Slot c arg7 arg9 arg11 arg13 (lhsB xb (2 * n)) (mergedV xw xs xa xb (2 * n)) (maxV xw xs xa xb (2 * n)) (invV xw xs xa xb (2 * n)) ∗ Out c arg5 arg6 (outAt (codesV xw xs xa xb) O (2 * n) 0) (soutAt (scalesV xw xs xa xb) T (2 * n + 1)) ∗ Slot c arg8 arg10 arg12 arg14 L A X V) : sProp 𝕄)
      ⊢ inv c arg1 harg1 arg2 harg2 arg3 harg3 arg4 harg4 arg5 harg5 arg6 harg6 arg7 harg7 arg8 harg8 arg9 harg9 arg10 harg10 arg11 harg11 arg12 harg12 arg13 harg13 arg14 harg14 xw xs xa xb O T n := by
  unfold inv
  iintro H
  iexists L; iexists A; iexists X; iexists V
  isplitr
  · ipureintro; exact ⟨hL, hX⟩
  iexact H

set_option maxHeartbeats 40000000 in
/-- The whole body: from any scratch and output contents, every row of the codes and of the scales is written. -/
theorem body_wp (c : Dev nD) (E : Set ℕ) (i : grid0.Coords) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) {xw xs xa xb}
    {L0 A0 X0 V0 L1 A1 X1 V1 O T} {Q : PUnit → sProp 𝕄}
    (hQ : iprop(Inp c arg1 arg2 arg3 arg4 xw xs xa xb ∗ Slot c arg8 arg10 arg12 arg14 (lhsB xb 7) (mergedV xw xs xa xb 7) (maxV xw xs xa xb 7) (invV xw xs xa xb 7) ∗ Out c arg5 arg6 (codesV xw xs xa xb) (scalesV xw xs xa xb) ∗ Slot c arg7 arg9 arg11 arg13 (lhsB xb 6) (mergedV xw xs xa xb 6) (maxV xw xs xa xb 6) (invV xw xs xa xb 6)) ⊢ Q ⟨⟩) :
    iprop(Inp c arg1 arg2 arg3 arg4 xw xs xa xb ∗ Slot c arg7 arg9 arg11 arg13 L0 A0 X0 V0 ∗ Out c arg5 arg6 O T ∗ Slot c arg8 arg10 arg12 arg14 L1 A1 X1 V1)
      ⊢ wp frame (wpE (defs₀ (F := F)) Variants.none (c : Thread nD τ) none) E (cc0_lora_merge i arg1 harg1 arg2 harg2 arg3 harg3 arg4 harg4 arg5 harg5 arg6 harg6 arg7 harg7 arg8 harg8 arg9 harg9 arg10 harg10 arg11 harg11 arg12 harg12 arg13 harg13 arg14 harg14) Q := by
  rw [← outAt_zero (codesV xw xs xa xb) O, ← soutAt_zero (scalesV xw xs xa xb) T]
  unfold cc0_lora_merge
  refine step_init (by rfl) (by rfl) (by rfl) (by rfl) ?_
  refine swap_slots ?_
  refine step_init (by rfl) (by rfl) (by rfl) (by rfl) ?_
  refine swap_slots ?_
  refine step_head 0 (by decide) (fun _ _ => rfl) (by rfl) (by rfl) (by rfl) (by rfl) ?_
  rw [← accAt_zero (mergedV xw xs xa xb 0) A0, ← mxAt_zero (maxV xw xs xa xb 0) maxZ]
  iterate 14
    refine step_tile 0 _ (by decide) (by decide) (by rfl) (by rfl) (by rfl) (by rfl) (by rfl) (by rfl) (by rfl) (by rfl) (by rfl) (by rfl) ?_
  rw [accAt_all, mxAt_all zeroTail_maxZ]
  rw [← invAt_zero (invV xw xs xa xb 0) V0]
  iterate 4
    refine step_group 0 _ (by decide) (by rfl) (by rfl) (by rfl) (by rfl) (by rfl) (by rfl) (by rfl) (by rfl) (by rfl) (by rfl) ?_
  rw [invAt_all]
  refine step_srow 0 (by rfl) (by rfl) (fun _ => ?_)
  refine step_loop (inv c arg1 harg1 arg2 harg2 arg3 harg3 arg4 harg4 arg5 harg5 arg6 harg6 arg7 harg7 arg8 harg8 arg9 harg9 arg10 harg10 arg11 harg11 arg12 harg12 arg13 harg13 arg14 harg14 xw xs xa xb O T) ?_ ?_ (n := 3) (by decide) ?_
  · exact fun k => inv_elim fun L A X V hL hX => loop_body c E i arg1 harg1 arg2 harg2 arg3 harg3 arg4 harg4 arg5 harg5 arg6 harg6 arg7 harg7 arg8 harg8 arg9 harg9 arg10 harg10 arg11 harg11 arg12 harg12 arg13 harg13 arg14 harg14 (fun _ => 0#32) (fun _ => Scalar.ofBits .f32 0#32) (fun _ => Scalar.ofBits .f32 0#32) (fun _ => Scalar.ofBits .f32 0#32) (Scalar.ofBits .f32 0#32) k hL hX
      (inv_intro (n := k.val + 1) lhsB_eye zeroTail_maxV)
  · exact inv_intro (n := 0) (fun _ _ => rfl) zeroTail_maxZ
  refine inv_elim (n := 3) fun L A X V hL hX => ?_
  refine swap_slots ?_
  refine step_head 7 (by decide) hL (by rfl) (by rfl) (by rfl) (by rfl) ?_
  rw [← accAt_zero (mergedV xw xs xa xb 7) A, ← mxAt_zero (maxV xw xs xa xb 7) X]
  iterate 14
    refine step_tile 7 _ (by decide) (by decide) (by rfl) (by rfl) (by rfl) (by rfl) (by rfl) (by rfl) (by rfl) (by rfl) (by rfl) (by rfl) ?_
  rw [accAt_all, mxAt_all hX]
  refine swap_slots ?_
  iterate 28
    refine step_quant 6 _ (by decide) (by rfl) (by rfl) (by rfl) (fun _ _ => by rfl) ?_
  rw [outAt_row]
  refine swap_slots ?_
  rw [← invAt_zero (invV xw xs xa xb 7) V]
  iterate 4
    refine step_group 7 _ (by decide) (by rfl) (by rfl) (by rfl) (by rfl) (by rfl) (by rfl) (by rfl) (by rfl) (by rfl) (by rfl) ?_
  rw [invAt_all]
  refine step_srow 7 (by rfl) (by rfl) (fun _ => ?_)
  refine swap_slots ?_
  refine swap_slots ?_
  iterate 28
    refine step_quant 7 _ (by decide) (by rfl) (by rfl) (by rfl) (fun _ _ => by rfl) ?_
  rw [outAt_row]
  rw [outAt_all, soutAt_all]
  exact wp_done hQ
end Cert.Kernel.Body
end
-- ==== Proof.KernelWhole.lean ====
module

public import proofs.«01_k».proof.Proof.KernelBody
public import proofs.«01_k».proof.Proof.Gen.Kernel.Frame
public import proofs.«01_k».proof.Proof.Gen.Kernel.Launch
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! # The whole run of `Kernel`

Each of the 16 grid steps leaves the codes and the scales of its matrix in the two output blocks (`Body.body_wp`);
here the pipeline is run over them, which ends with every output array at what the blocks make of it, every
argument as it was, and every counter at zero. -/

@[expose] public section
set_option maxRecDepth 16384
noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Lora

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, buffer by buffer -/

/-- A whole buffer, as a memref holding its contents, -/
theorem owns_of_pts (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  exact Entails.of_eq (owns_whole (c : Thread nD τ) b fullShare f).symm

/-- and back. -/
theorem pts_of_owns (c : Dev nD) (b : Ref sig .tc) (f : Buf (Elt F) ((c : Thread nD τ).loc b)) :
    (owns (c : Thread nD τ) (Memref.whole b) fullShare f : sProp 𝕄)
      ⊢ iprop(∃ f : Buf (Elt F) ((c : Thread nD τ).loc b), ((c : Thread nD τ).loc b) ↦{fullShare} f) := by
  rw [owns_whole (c : Thread nD τ) b fullShare f]
  iintro H
  iexists f
  iexact H

/-- The body on whole memrefs at any contents runs to the continuation that holds the inputs as they were, the outputs at
    the codes and the scales of the inputs, and the scratch buffers at something. -/
theorem sound_kernel (c : Dev nD) (E : Set ℕ) (i : grid0.Coords) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) {xw xs xa xb O T} {g7} {g8} {g9} {g10} {g11} {g12} {g13} {g14} {K : PUnit → sProp 𝕄} :
    iprop(owns (c : Thread nD τ) arg1 fullShare xw ∗ owns (c : Thread nD τ) arg2 fullShare xs ∗ owns (c : Thread nD τ) arg3 fullShare xa ∗ owns (c : Thread nD τ) arg4 fullShare xb ∗ owns (c : Thread nD τ) arg5 fullShare O ∗ owns (c : Thread nD τ) arg6 fullShare T ∗ owns (c : Thread nD τ) arg7 fullShare g7 ∗ owns (c : Thread nD τ) arg8 fullShare g8 ∗ owns (c : Thread nD τ) arg9 fullShare g9 ∗ owns (c : Thread nD τ) arg10 fullShare g10 ∗ owns (c : Thread nD τ) arg11 fullShare g11 ∗ owns (c : Thread nD τ) arg12 fullShare g12 ∗ owns (c : Thread nD τ) arg13 fullShare g13 ∗ owns (c : Thread nD τ) arg14 fullShare g14
        ∗ (iprop(owns (c : Thread nD τ) arg1 fullShare xw ∗ owns (c : Thread nD τ) arg2 fullShare xs ∗ owns (c : Thread nD τ) arg3 fullShare xa ∗ owns (c : Thread nD τ) arg4 fullShare xb ∗ owns (c : Thread nD τ) arg5 fullShare (codesV xw xs xa xb) ∗ owns (c : Thread nD τ) arg6 fullShare (scalesV xw xs xa xb) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_lora_merge i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨HI1, HI2, HI3, HI4, HO1, HO2, HG7, HG8, HG9, HG10, HG11, HG12, HG13, HG14, Hk⟩
  iapply (wp_wand_r frame (wpE (defs₀ (F := F)) Variants.none (c : Thread nD τ) none) E (Q := fun _ => iprop(Inp c arg1 arg2 arg3 arg4 xw xs xa xb ∗ Slot c arg8 arg10 arg12 arg14 (lhsB xb 7) (mergedV xw xs xa xb 7) (maxV xw xs xa xb 7) (invV xw xs xa xb 7) ∗ Out c arg5 arg6 (codesV xw xs xa xb) (scalesV xw xs xa xb) ∗ Slot c arg7 arg9 arg11 arg13 (lhsB xb 6) (mergedV xw xs xa xb 6) (maxV xw xs xa xb 6) (invV xw xs xa xb 6))))
  isplitr [Hk]
  · iapply (Body.body_wp c E i arg1 harg1 arg2 harg2 arg3 harg3 arg4 harg4 arg5 harg5 arg6 harg6 arg7 harg7 arg8 harg8 arg9 harg9 arg10 harg10 arg11 harg11 arg12 harg12 arg13 harg13 arg14 harg14 (L0 := g7) (A0 := g9) (X0 := g11) (V0 := g13) (L1 := g8) (A1 := g10) (X1 := g12) (V1 := g14)
      (O := O) (T := T) .rfl)
    unfold Inp Slot Out
    iframe
  iintro %_ H
  iapply Hk
  unfold Inp Slot Out
  icases H with ⟨⟨HI1, HI2, HI3, HI4⟩, ⟨HG8, HG10, HG12, HG14⟩, ⟨HO1, HO2⟩, HG7, HG9, HG11, HG13⟩
  isplitl [HI1]; · iexact HI1
  isplitl [HI2]; · iexact HI2
  isplitl [HI3]; · iexact HI3
  isplitl [HI4]; · iexact HI4
  isplitl [HO1]; · iexact HO1
  isplitl [HO2]; · iexact HO2
  isplitl [HG7]; · iexists _; iexact HG7
  isplitl [HG8]; · iexists _; iexact HG8
  isplitl [HG9]; · iexists _; iexact HG9
  isplitl [HG10]; · iexists _; iexact HG10
  isplitl [HG11]; · iexists _; iexact HG11
  isplitl [HG12]; · iexists _; iexact HG12
  isplitl [HG13]; · iexists _; iexact HG13
  iexists _; iexact HG14

/-! ## The pipeline's proof data -/

/-- The proof data of the one pipeline on core `c`: the arrays as the region finds them (`V`); after the body at
    point `t` each input's buffer at its block and each output's at `the values of `Values`` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesV (F := F) (iblk m c 0 t) (iblk m c 1 t) (iblk m c 2 t) (iblk m c 3 t)
    | ⟨5, _⟩ => scalesV (F := F) (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesV (F := F) (iblk m c 0 t) (iblk m c 1 t) (iblk m c 2 t) (iblk m c 3 t) := by dsimp only [dats]
theorem after0_5 (c : Dev nD) (t : Fin cfg0.N) : (dats m 0 c).after 5 t = scalesV (F := F) (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so `sound_kernel` applies; the scratch
    buffers come out of the invariant and go back into it, and the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%g0, G0⟩, ⟨%g1, G1⟩, ⟨%g2, G2⟩, ⟨%g3, G3⟩, ⟨%g4, G4⟩, ⟨%g5, G5⟩, ⟨%g6, G6⟩, ⟨%g7, G7⟩⟩, HP⟩, Ho, ⟨%d0, H0⟩, ⟨%d1, H1⟩, ⟨%d2, H2⟩, ⟨%d3, H3⟩, ⟨%d4, H4⟩, ⟨%d5, H5⟩⟩
  ihave G0 := (owns_of_pts c cc0_scratch0 g0) $$ G0
  ihave G1 := (owns_of_pts c cc0_scratch1 g1) $$ G1
  ihave G2 := (owns_of_pts c cc0_scratch2 g2) $$ G2
  ihave G3 := (owns_of_pts c cc0_scratch3 g3) $$ G3
  ihave G4 := (owns_of_pts c cc0_scratch4 g4) $$ G4
  ihave G5 := (owns_of_pts c cc0_scratch5 g5) $$ G5
  ihave G6 := (owns_of_pts c cc0_scratch6 g6) $$ G6
  ihave G7 := (owns_of_pts c cc0_scratch7 g7) $$ G7
  iapply (sound_kernel c Set.univ (grid0.coords t) _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H0, H1, H2, H3, H4, H5, ⟨%e0, G0⟩, ⟨%e1, G1⟩, ⟨%e2, G2⟩, ⟨%e3, G3⟩, ⟨%e4, G4⟩, ⟨%e5, G5⟩, ⟨%e6, G6⟩, ⟨%e7, G7⟩⟩
  isplitl [HP G0 G1 G2 G3 G4 G5 G6 G7]
  · isplitr [HP]
    · isplitl [G0]; · iapply (pts_of_owns c cc0_scratch0 e0) $$ G0
      isplitl [G1]; · iapply (pts_of_owns c cc0_scratch1 e1) $$ G1
      isplitl [G2]; · iapply (pts_of_owns c cc0_scratch2 e2) $$ G2
      isplitl [G3]; · iapply (pts_of_owns c cc0_scratch3 e3) $$ G3
      isplitl [G4]; · iapply (pts_of_owns c cc0_scratch4 e4) $$ G4
      isplitl [G5]; · iapply (pts_of_owns c cc0_scratch5 e5) $$ G5
      isplitl [G6]; · iapply (pts_of_owns c cc0_scratch6 e6) $$ G6
      iapply (pts_of_owns c cc0_scratch7 e7) $$ G7
    iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Whole

end
-- ==== Proof.KernelIdealBody.lean ====
module
public import proofs.«01_k».proof.Proof.Steps
public import proofs.«01_k».proof.Proof.Gen.KernelIdeal.Skeleton

/-! # One grid step of `KernelIdeal`

The kernel's body on one matrix. Its two sets of scratch buffers take turns: while one holds a row of blocks
just merged, the row merged before it, in the other, is divided by its scales and written out. The body is
walked by the step lemmas of `Steps`: every row of 128 is merged (14 tiles), its scales are found (4 groups)
and its codes are written (28 blocks), and `Values` names what each leaves. -/

@[expose] public section
set_option maxRecDepth 65536
noncomputable section
namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Lora
variable {F : FTy → Type} [FloatOps F]
local notation "𝕄" => MT nD τ sig Unit (Elt F) ℕ (UR sig nD τ) ℕ

set_option maxHeartbeats 40000000 in
/-- One trip of the loop, from row 2k of blocks merged and scaled in the first set of buffers to row 2k+2:
    rows 2k and 2k+1 of the codes and rows 2k+1 and 2k+2 of the scales are written on the way. -/
theorem loop_body (c : Dev nD) (E : Set ℕ) (i : grid0.Coords) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) (v537 : IVec S8x128 32) (v859 : FVec F S8x128 .f32) (v953 : FVec F S8x128 .f32) (v958 : FVec F S8x128 .f32) (cst_389 : F .f32)
    (k : Fin k0_t1_loop.trips) {xw xs xa xb} {L A X V O T} {Q : PUnit → sProp 𝕄}
    (hL : ∀ y : S128x256.Idx, 64 ≤ (y 1).val → L y = eye y) (hX : ZeroTail X)
    (hQ : iprop(Inp c arg1 arg2 arg3 arg4 xw xs xa xb ∗ Slot c arg7 arg9 arg11 arg13 (lhsB xb (2 * k.val + 2)) (mergedV xw xs xa xb (2 * k.val + 2)) (maxV xw xs xa xb (2 * k.val + 2)) (invV xw xs xa xb (2 * k.val + 2)) ∗ Out c arg5 arg6 (outAt (codesV xw xs xa xb) O (2 * k.val + 2) 0) (soutAt (scalesV xw xs xa xb) T (2 * k.val + 2 + 1)) ∗ Slot c arg8 arg10 arg12 arg14 (lhsB xb (2 * k.val + 1)) (mergedV xw xs xa xb (2 * k.val + 1)) (maxV xw xs xa xb (2 * k.val + 1)) (invV xw xs xa xb (2 * k.val + 1))) ⊢ Q ⟨⟩) :
    iprop(Inp c arg1 arg2 arg3 arg4 xw xs xa xb ∗ Slot c arg7 arg9 arg11 arg13 (lhsB xb (2 * k.val)) (mergedV xw xs xa xb (2 * k.val)) (maxV xw xs xa xb (2 * k.val)) (invV xw xs xa xb (2 * k.val)) ∗ Out c arg5 arg6 (outAt (codesV xw xs xa xb) O (2 * k.val) 0) (soutAt (scalesV xw xs xa xb) T (2 * k.val + 1)) ∗ Slot c arg8 arg10 arg12 arg14 L A X V)
      ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 arg12 harg12 arg13 harg13 arg14 harg14 v537 v859 v953 v958 cst_389 k ()) Q := by
  have hk : k.val < 3 := k.isLt
  have hp1 : 2 * k.val + 1 < 8 := by omega
  have hp2 : 2 * k.val + 2 < 8 := by omega
  unfold k0_t1_body
  refine swap_slots ?_
  refine step_head (2 * k.val + 1) hp1 hL (by first | rfl | (clear * -; revert k; decide)) (by rfl) (by rfl) (by rfl) ?_
  rw [← accAt_zero (mergedV xw xs xa xb (2 * k.val + 1)) A, ← mxAt_zero (maxV xw xs xa xb (2 * k.val + 1)) X]
  iterate 14
    refine step_tile (2 * k.val + 1) _ hp1 (by decide) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by rfl) (by rfl) (by rfl) ?_
  rw [accAt_all, mxAt_all hX]
  refine swap_slots ?_
  iterate 28
    refine step_quant (2 * k.val) _ (by decide) (by rfl) (by rfl) (by first | rfl | (clear * -; revert k; decide)) (fun _ _ => by rfl) ?_
  rw [outAt_row]
  refine swap_slots ?_
  rw [← invAt_zero (invV xw xs xa xb (2 * k.val + 1)) V]
  iterate 4
    refine step_group (2 * k.val + 1) _ (by decide) (by rfl) (by rfl) (by rfl) (by rfl) (by rfl) (by rfl) (by rfl) (by rfl) (by rfl) (by rfl) ?_
  rw [invAt_all]
  refine step_srow (2 * k.val + 1) (by first | rfl | (clear * -; revert k; decide)) (by rfl) (fun _ => ?_)
  refine swap_slots ?_
  refine step_head (2 * k.val + 2) hp2 lhsB_eye (by first | rfl | (clear * -; revert k; decide)) (by rfl) (by rfl) (by rfl) ?_
  rw [← accAt_zero (mergedV xw xs xa xb (2 * k.val + 2)) (mergedV xw xs xa xb (2 * k.val)), ← mxAt_zero (maxV xw xs xa xb (2 * k.val + 2)) (maxV xw xs xa xb (2 * k.val))]
  iterate 14
    refine step_tile (2 * k.val + 2) _ hp2 (by decide) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by first | rfl | (clear * -; revert k; decide)) (by rfl) (by rfl) (by rfl) ?_
  rw [accAt_all, mxAt_all zeroTail_maxV]
  refine swap_slots ?_
  iterate 28
    refine step_quant (2 * k.val + 1) _ (by decide) (by rfl) (by rfl) (by first | rfl | (clear * -; revert k; decide)) (fun _ _ => by rfl) ?_
  rw [outAt_row]
  refine swap_slots ?_
  rw [← invAt_zero (invV xw xs xa xb (2 * k.val + 2)) (invV xw xs xa xb (2 * k.val))]
  iterate 4
    refine step_group (2 * k.val + 2) _ (by decide) (by rfl) (by rfl) (by rfl) (by rfl) (by rfl) (by rfl) (by rfl) (by rfl) (by rfl) (by rfl) ?_
  rw [invAt_all]
  refine step_srow (2 * k.val + 2) (by first | rfl | (clear * -; revert k; decide)) (by rfl) (fun _ => ?_)
  exact wp_done hQ

/-- What holds before trip k: row 2k is merged and scaled in the first set of buffers, the rows before it are written
    out, and the second set is as a merge needs it: the identity right of its left operand, zeros below its maxima. -/
def inv (c : Dev nD) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) (xw : S1x1024x3584.Idx → F .fp8e4m3) (xs : S1x8x28.Idx → F .f32) (xa : S1x64x3584.Idx → F .bf16) (xb : S1x1024x64.Idx → F .bf16)
    (O : FVec F S1x1024x3584 .fp8e4m3) (T : FVec F S1x8x28 .f32) (n : ℕ) : sProp 𝕄 :=
  iprop(∃ (L : FVec F S128x256 .bf16) (A : FVec F S128x3584 .f32) (X : FVec F S256x128 .f32) (V : FVec F S32x128 .f32),
    ⌜(∀ y : S128x256.Idx, 64 ≤ (y 1).val → L y = eye y) ∧ ZeroTail X⌝ ∗
    Inp c arg1 arg2 arg3 arg4 xw xs xa xb ∗ Slot c arg7 arg9 arg11 arg13 (lhsB xb (2 * n)) (mergedV xw xs xa xb (2 * n)) (maxV xw xs xa xb (2 * n)) (invV xw xs xa xb (2 * n)) ∗ Out c arg5 arg6 (outAt (codesV xw xs xa xb) O (2 * n) 0) (soutAt (scalesV xw xs xa xb) T (2 * n + 1)) ∗ Slot c arg8 arg10 arg12 arg14 L A X V)

/-- To prove something from the invariant is to prove it for any contents of the second set of buffers. -/
theorem inv_elim {c : Dev nD} {arg1 : Memref sig .tc .vmem S1x1024x3584 .fp8e4m3} {harg1 : arg1.IsWhole} {arg2 : Memref sig .tc .smem S1x8x28 .f32} {harg2 : arg2.IsWhole} {arg3 : Memref sig .tc .vmem S1x64x3584 .bf16} {harg3 : arg3.IsWhole} {arg4 : Memref sig .tc .vmem S1x1024x64 .bf16} {harg4 : arg4.IsWhole} {arg5 : Memref sig .tc .vmem S1x1024x3584 .fp8e4m3} {harg5 : arg5.IsWhole} {arg6 : Memref sig .tc .vmem S1x8x28 .f32} {harg6 : arg6.IsWhole} {arg7 : Memref sig .tc .vmem S128x256 .bf16} {harg7 : arg7.IsWhole} {arg8 : Memref sig .tc .vmem S128x256 .bf16} {harg8 : arg8.IsWhole} {arg9 : Memref sig .tc .vmem S128x3584 .f32} {harg9 : arg9.IsWhole} {arg10 : Memref sig .tc .vmem S128x3584 .f32} {harg10 : arg10.IsWhole} {arg11 : Memref sig .tc .vmem S256x128 .f32} {harg11 : arg11.IsWhole} {arg12 : Memref sig .tc .vmem S256x128 .f32} {harg12 : arg12.IsWhole} {arg13 : Memref sig .tc .vmem S32x128 .f32} {harg13 : arg13.IsWhole} {arg14 : Memref sig .tc .vmem S32x128 .f32} {harg14 : arg14.IsWhole} {xw xs xa xb O T n} {W : sProp 𝕄}
    (h : ∀ (L : FVec F S128x256 .bf16) (A : FVec F S128x3584 .f32) (X : FVec F S256x128 .f32) (V : FVec F S32x128 .f32),
      (∀ y : S128x256.Idx, 64 ≤ (y 1).val → L y = eye y) → ZeroTail X →
      (iprop(Inp c arg1 arg2 arg3 arg4 xw xs xa xb ∗ Slot c arg7 arg9 arg11 arg13 (lhsB xb (2 * n)) (mergedV xw xs xa xb (2 * n)) (maxV xw xs xa xb (2 * n)) (invV xw xs xa xb (2 * n)) ∗ Out c arg5 arg6 (outAt (codesV xw xs xa xb) O (2 * n) 0) (soutAt (scalesV xw xs xa xb) T (2 * n + 1)) ∗ Slot c arg8 arg10 arg12 arg14 L A X V) ⊢ W)) :
    inv c arg1 harg1 arg2 harg2 arg3 harg3 arg4 harg4 arg5 harg5 arg6 harg6 arg7 harg7 arg8 harg8 arg9 harg9 arg10 harg10 arg11 harg11 arg12 harg12 arg13 harg13 arg14 harg14 xw xs xa xb O T n ⊢ W := by
  unfold inv
  iintro ⟨%L, %A, %X, %V, %hh, H⟩
  iapply (h L A X V hh.1 hh.2) $$ H

/-- The invariant, from any contents of the second set of buffers that a merge can start from. -/
theorem inv_intro {c : Dev nD} {arg1 : Memref sig .tc .vmem S1x1024x3584 .fp8e4m3} {harg1 : arg1.IsWhole} {arg2 : Memref sig .tc .smem S1x8x28 .f32} {harg2 : arg2.IsWhole} {arg3 : Memref sig .tc .vmem S1x64x3584 .bf16} {harg3 : arg3.IsWhole} {arg4 : Memref sig .tc .vmem S1x1024x64 .bf16} {harg4 : arg4.IsWhole} {arg5 : Memref sig .tc .vmem S1x1024x3584 .fp8e4m3} {harg5 : arg5.IsWhole} {arg6 : Memref sig .tc .vmem S1x8x28 .f32} {harg6 : arg6.IsWhole} {arg7 : Memref sig .tc .vmem S128x256 .bf16} {harg7 : arg7.IsWhole} {arg8 : Memref sig .tc .vmem S128x256 .bf16} {harg8 : arg8.IsWhole} {arg9 : Memref sig .tc .vmem S128x3584 .f32} {harg9 : arg9.IsWhole} {arg10 : Memref sig .tc .vmem S128x3584 .f32} {harg10 : arg10.IsWhole} {arg11 : Memref sig .tc .vmem S256x128 .f32} {harg11 : arg11.IsWhole} {arg12 : Memref sig .tc .vmem S256x128 .f32} {harg12 : arg12.IsWhole} {arg13 : Memref sig .tc .vmem S32x128 .f32} {harg13 : arg13.IsWhole} {arg14 : Memref sig .tc .vmem S32x128 .f32} {harg14 : arg14.IsWhole} {xw xs xa xb O T n}
    {L : FVec F S128x256 .bf16} {A : FVec F S128x3584 .f32} {X : FVec F S256x128 .f32} {V : FVec F S32x128 .f32}
    (hL : ∀ y : S128x256.Idx, 64 ≤ (y 1).val → L y = eye y) (hX : ZeroTail X) :
    (iprop(Inp c arg1 arg2 arg3 arg4 xw xs xa xb ∗ Slot c arg7 arg9 arg11 arg13 (lhsB xb (2 * n)) (mergedV xw xs xa xb (2 * n)) (maxV xw xs xa xb (2 * n)) (invV xw xs xa xb (2 * n)) ∗ Out c arg5 arg6 (outAt (codesV xw xs xa xb) O (2 * n) 0) (soutAt (scalesV xw xs xa xb) T (2 * n + 1)) ∗ Slot c arg8 arg10 arg12 arg14 L A X V) : sProp 𝕄)
      ⊢ inv c arg1 harg1 arg2 harg2 arg3 harg3 arg4 harg4 arg5 harg5 arg6 harg6 arg7 harg7 arg8 harg8 arg9 harg9 arg10 harg10 arg11 harg11 arg12 harg12 arg13 harg13 arg14 harg14 xw xs xa xb O T n := by
  unfold inv
  iintro H
  iexists L; iexists A; iexists X; iexists V
  isplitr
  · ipureintro; exact ⟨hL, hX⟩
  iexact H

set_option maxHeartbeats 40000000 in
/-- The whole body: from any scratch and output contents, every row of the codes and of the scales is written. -/
theorem body_wp (c : Dev nD) (E : Set ℕ) (i : grid0.Coords) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) {xw xs xa xb}
    {L0 A0 X0 V0 L1 A1 X1 V1 O T} {Q : PUnit → sProp 𝕄}
    (hQ : iprop(Inp c arg1 arg2 arg3 arg4 xw xs xa xb ∗ Slot c arg8 arg10 arg12 arg14 (lhsB xb 7) (mergedV xw xs xa xb 7) (maxV xw xs xa xb 7) (invV xw xs xa xb 7) ∗ Out c arg5 arg6 (codesV xw xs xa xb) (scalesV xw xs xa xb) ∗ Slot c arg7 arg9 arg11 arg13 (lhsB xb 6) (mergedV xw xs xa xb 6) (maxV xw xs xa xb 6) (invV xw xs xa xb 6)) ⊢ Q ⟨⟩) :
    iprop(Inp c arg1 arg2 arg3 arg4 xw xs xa xb ∗ Slot c arg7 arg9 arg11 arg13 L0 A0 X0 V0 ∗ Out c arg5 arg6 O T ∗ Slot c arg8 arg10 arg12 arg14 L1 A1 X1 V1)
      ⊢ wp frame (wpE (defs₀ (F := F)) Variants.none (c : Thread nD τ) none) E (cc0_lora_merge i arg1 harg1 arg2 harg2 arg3 harg3 arg4 harg4 arg5 harg5 arg6 harg6 arg7 harg7 arg8 harg8 arg9 harg9 arg10 harg10 arg11 harg11 arg12 harg12 arg13 harg13 arg14 harg14) Q := by
  rw [← outAt_zero (codesV xw xs xa xb) O, ← soutAt_zero (scalesV xw xs xa xb) T]
  unfold cc0_lora_merge
  refine step_init (by rfl) (by rfl) (by rfl) (by rfl) ?_
  refine swap_slots ?_
  refine step_init (by rfl) (by rfl) (by rfl) (by rfl) ?_
  refine swap_slots ?_
  refine step_head 0 (by decide) (fun _ _ => rfl) (by rfl) (by rfl) (by rfl) (by rfl) ?_
  rw [← accAt_zero (mergedV xw xs xa xb 0) A0, ← mxAt_zero (maxV xw xs xa xb 0) maxZ]
  iterate 14
    refine step_tile 0 _ (by decide) (by decide) (by rfl) (by rfl) (by rfl) (by rfl) (by rfl) (by rfl) (by rfl) (by rfl) (by rfl) (by rfl) ?_
  rw [accAt_all, mxAt_all zeroTail_maxZ]
  rw [← invAt_zero (invV xw xs xa xb 0) V0]
  iterate 4
    refine step_group 0 _ (by decide) (by rfl) (by rfl) (by rfl) (by rfl) (by rfl) (by rfl) (by rfl) (by rfl) (by rfl) (by rfl) ?_
  rw [invAt_all]
  refine step_srow 0 (by rfl) (by rfl) (fun _ => ?_)
  refine step_loop (inv c arg1 harg1 arg2 harg2 arg3 harg3 arg4 harg4 arg5 harg5 arg6 harg6 arg7 harg7 arg8 harg8 arg9 harg9 arg10 harg10 arg11 harg11 arg12 harg12 arg13 harg13 arg14 harg14 xw xs xa xb O T) ?_ ?_ (n := 3) (by decide) ?_
  · exact fun k => inv_elim fun L A X V hL hX => loop_body c E i arg1 harg1 arg2 harg2 arg3 harg3 arg4 harg4 arg5 harg5 arg6 harg6 arg7 harg7 arg8 harg8 arg9 harg9 arg10 harg10 arg11 harg11 arg12 harg12 arg13 harg13 arg14 harg14 (fun _ => 0#32) (fun _ => Scalar.ofBits .f32 0#32) (fun _ => Scalar.ofBits .f32 0#32) (fun _ => Scalar.ofBits .f32 0#32) (Scalar.ofBits .f32 0#32) k hL hX
      (inv_intro (n := k.val + 1) lhsB_eye zeroTail_maxV)
  · exact inv_intro (n := 0) (fun _ _ => rfl) zeroTail_maxZ
  refine inv_elim (n := 3) fun L A X V hL hX => ?_
  refine swap_slots ?_
  refine step_head 7 (by decide) hL (by rfl) (by rfl) (by rfl) (by rfl) ?_
  rw [← accAt_zero (mergedV xw xs xa xb 7) A, ← mxAt_zero (maxV xw xs xa xb 7) X]
  iterate 14
    refine step_tile 7 _ (by decide) (by decide) (by rfl) (by rfl) (by rfl) (by rfl) (by rfl) (by rfl) (by rfl) (by rfl) (by rfl) (by rfl) ?_
  rw [accAt_all, mxAt_all hX]
  refine swap_slots ?_
  iterate 28
    refine step_quant 6 _ (by decide) (by rfl) (by rfl) (by rfl) (fun _ _ => by rfl) ?_
  rw [outAt_row]
  refine swap_slots ?_
  rw [← invAt_zero (invV xw xs xa xb 7) V]
  iterate 4
    refine step_group 7 _ (by decide) (by rfl) (by rfl) (by rfl) (by rfl) (by rfl) (by rfl) (by rfl) (by rfl) (by rfl) (by rfl) ?_
  rw [invAt_all]
  refine step_srow 7 (by rfl) (by rfl) (fun _ => ?_)
  refine swap_slots ?_
  refine swap_slots ?_
  iterate 28
    refine step_quant 7 _ (by decide) (by rfl) (by rfl) (by rfl) (fun _ _ => by rfl) ?_
  rw [outAt_row]
  rw [outAt_all, soutAt_all]
  exact wp_done hQ
end Cert.KernelIdeal.Body
end
-- ==== Proof.KernelIdealWhole.lean ====
module

public import proofs.«01_k».proof.Proof.KernelIdealBody
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! # The whole run of `KernelIdeal`

Each of the 16 grid steps leaves the codes and the scales of its matrix in the two output blocks (`Body.body_wp`);
here the pipeline is run over them, which ends with every output array at what the blocks make of it, every
argument as it was, and every counter at zero. -/

@[expose] public section
set_option maxRecDepth 16384
noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Lora

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, buffer by buffer -/

/-- A whole buffer, as a memref holding its contents, -/
theorem owns_of_pts (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  exact Entails.of_eq (owns_whole (c : Thread nD τ) b fullShare f).symm

/-- and back. -/
theorem pts_of_owns (c : Dev nD) (b : Ref sig .tc) (f : Buf (Elt F) ((c : Thread nD τ).loc b)) :
    (owns (c : Thread nD τ) (Memref.whole b) fullShare f : sProp 𝕄)
      ⊢ iprop(∃ f : Buf (Elt F) ((c : Thread nD τ).loc b), ((c : Thread nD τ).loc b) ↦{fullShare} f) := by
  rw [owns_whole (c : Thread nD τ) b fullShare f]
  iintro H
  iexists f
  iexact H

/-- The body on whole memrefs at any contents runs to the continuation that holds the inputs as they were, the outputs at
    the codes and the scales of the inputs, and the scratch buffers at something. -/
theorem sound_kernel (c : Dev nD) (E : Set ℕ) (i : grid0.Coords) (arg1 : Memref sig .tc .vmem S1x1024x3584 .fp8e4m3) (harg1 : arg1.IsWhole) (arg2 : Memref sig .tc .smem S1x8x28 .f32) (harg2 : arg2.IsWhole) (arg3 : Memref sig .tc .vmem S1x64x3584 .bf16) (harg3 : arg3.IsWhole) (arg4 : Memref sig .tc .vmem S1x1024x64 .bf16) (harg4 : arg4.IsWhole) (arg5 : Memref sig .tc .vmem S1x1024x3584 .fp8e4m3) (harg5 : arg5.IsWhole) (arg6 : Memref sig .tc .vmem S1x8x28 .f32) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x3584 .f32) (harg9 : arg9.IsWhole) (arg10 : Memref sig .tc .vmem S128x3584 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S32x128 .f32) (harg13 : arg13.IsWhole) (arg14 : Memref sig .tc .vmem S32x128 .f32) (harg14 : arg14.IsWhole) {xw xs xa xb O T} {g7} {g8} {g9} {g10} {g11} {g12} {g13} {g14} {K : PUnit → sProp 𝕄} :
    iprop(owns (c : Thread nD τ) arg1 fullShare xw ∗ owns (c : Thread nD τ) arg2 fullShare xs ∗ owns (c : Thread nD τ) arg3 fullShare xa ∗ owns (c : Thread nD τ) arg4 fullShare xb ∗ owns (c : Thread nD τ) arg5 fullShare O ∗ owns (c : Thread nD τ) arg6 fullShare T ∗ owns (c : Thread nD τ) arg7 fullShare g7 ∗ owns (c : Thread nD τ) arg8 fullShare g8 ∗ owns (c : Thread nD τ) arg9 fullShare g9 ∗ owns (c : Thread nD τ) arg10 fullShare g10 ∗ owns (c : Thread nD τ) arg11 fullShare g11 ∗ owns (c : Thread nD τ) arg12 fullShare g12 ∗ owns (c : Thread nD τ) arg13 fullShare g13 ∗ owns (c : Thread nD τ) arg14 fullShare g14
        ∗ (iprop(owns (c : Thread nD τ) arg1 fullShare xw ∗ owns (c : Thread nD τ) arg2 fullShare xs ∗ owns (c : Thread nD τ) arg3 fullShare xa ∗ owns (c : Thread nD τ) arg4 fullShare xb ∗ owns (c : Thread nD τ) arg5 fullShare (codesV xw xs xa xb) ∗ owns (c : Thread nD τ) arg6 fullShare (scalesV xw xs xa xb) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_lora_merge i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨HI1, HI2, HI3, HI4, HO1, HO2, HG7, HG8, HG9, HG10, HG11, HG12, HG13, HG14, Hk⟩
  iapply (wp_wand_r frame (wpE (defs₀ (F := F)) Variants.none (c : Thread nD τ) none) E (Q := fun _ => iprop(Inp c arg1 arg2 arg3 arg4 xw xs xa xb ∗ Slot c arg8 arg10 arg12 arg14 (lhsB xb 7) (mergedV xw xs xa xb 7) (maxV xw xs xa xb 7) (invV xw xs xa xb 7) ∗ Out c arg5 arg6 (codesV xw xs xa xb) (scalesV xw xs xa xb) ∗ Slot c arg7 arg9 arg11 arg13 (lhsB xb 6) (mergedV xw xs xa xb 6) (maxV xw xs xa xb 6) (invV xw xs xa xb 6))))
  isplitr [Hk]
  · iapply (Body.body_wp c E i arg1 harg1 arg2 harg2 arg3 harg3 arg4 harg4 arg5 harg5 arg6 harg6 arg7 harg7 arg8 harg8 arg9 harg9 arg10 harg10 arg11 harg11 arg12 harg12 arg13 harg13 arg14 harg14 (L0 := g7) (A0 := g9) (X0 := g11) (V0 := g13) (L1 := g8) (A1 := g10) (X1 := g12) (V1 := g14)
      (O := O) (T := T) .rfl)
    unfold Inp Slot Out
    iframe
  iintro %_ H
  iapply Hk
  unfold Inp Slot Out
  icases H with ⟨⟨HI1, HI2, HI3, HI4⟩, ⟨HG8, HG10, HG12, HG14⟩, ⟨HO1, HO2⟩, HG7, HG9, HG11, HG13⟩
  isplitl [HI1]; · iexact HI1
  isplitl [HI2]; · iexact HI2
  isplitl [HI3]; · iexact HI3
  isplitl [HI4]; · iexact HI4
  isplitl [HO1]; · iexact HO1
  isplitl [HO2]; · iexact HO2
  isplitl [HG7]; · iexists _; iexact HG7
  isplitl [HG8]; · iexists _; iexact HG8
  isplitl [HG9]; · iexists _; iexact HG9
  isplitl [HG10]; · iexists _; iexact HG10
  isplitl [HG11]; · iexists _; iexact HG11
  isplitl [HG12]; · iexists _; iexact HG12
  isplitl [HG13]; · iexists _; iexact HG13
  iexists _; iexact HG14

/-! ## The pipeline's proof data -/

/-- The proof data of the one pipeline on core `c`: the arrays as the region finds them (`V`); after the body at
    point `t` each input's buffer at its block and each output's at `the values of `Values`` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesV (F := F) (iblk m c 0 t) (iblk m c 1 t) (iblk m c 2 t) (iblk m c 3 t)
    | ⟨5, _⟩ => scalesV (F := F) (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesV (F := F) (iblk m c 0 t) (iblk m c 1 t) (iblk m c 2 t) (iblk m c 3 t) := by dsimp only [dats]
theorem after0_5 (c : Dev nD) (t : Fin cfg0.N) : (dats m 0 c).after 5 t = scalesV (F := F) (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so `sound_kernel` applies; the scratch
    buffers come out of the invariant and go back into it, and the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%g0, G0⟩, ⟨%g1, G1⟩, ⟨%g2, G2⟩, ⟨%g3, G3⟩, ⟨%g4, G4⟩, ⟨%g5, G5⟩, ⟨%g6, G6⟩, ⟨%g7, G7⟩⟩, HP⟩, Ho, ⟨%d0, H0⟩, ⟨%d1, H1⟩, ⟨%d2, H2⟩, ⟨%d3, H3⟩, ⟨%d4, H4⟩, ⟨%d5, H5⟩⟩
  ihave G0 := (owns_of_pts c cc0_scratch0 g0) $$ G0
  ihave G1 := (owns_of_pts c cc0_scratch1 g1) $$ G1
  ihave G2 := (owns_of_pts c cc0_scratch2 g2) $$ G2
  ihave G3 := (owns_of_pts c cc0_scratch3 g3) $$ G3
  ihave G4 := (owns_of_pts c cc0_scratch4 g4) $$ G4
  ihave G5 := (owns_of_pts c cc0_scratch5 g5) $$ G5
  ihave G6 := (owns_of_pts c cc0_scratch6 g6) $$ G6
  ihave G7 := (owns_of_pts c cc0_scratch7 g7) $$ G7
  iapply (sound_kernel c Set.univ (grid0.coords t) _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H0, H1, H2, H3, H4, H5, ⟨%e0, G0⟩, ⟨%e1, G1⟩, ⟨%e2, G2⟩, ⟨%e3, G3⟩, ⟨%e4, G4⟩, ⟨%e5, G5⟩, ⟨%e6, G6⟩, ⟨%e7, G7⟩⟩
  isplitl [HP G0 G1 G2 G3 G4 G5 G6 G7]
  · isplitr [HP]
    · isplitl [G0]; · iapply (pts_of_owns c cc0_scratch0 e0) $$ G0
      isplitl [G1]; · iapply (pts_of_owns c cc0_scratch1 e1) $$ G1
      isplitl [G2]; · iapply (pts_of_owns c cc0_scratch2 e2) $$ G2
      isplitl [G3]; · iapply (pts_of_owns c cc0_scratch3 e3) $$ G3
      isplitl [G4]; · iapply (pts_of_owns c cc0_scratch4 e4) $$ G4
      isplitl [G5]; · iapply (pts_of_owns c cc0_scratch5 e5) $$ G5
      isplitl [G6]; · iapply (pts_of_owns c cc0_scratch6 e6) $$ G6
      iapply (pts_of_owns c cc0_scratch7 e7) $$ G7
    iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Whole

end
-- ==== Proof.KernelIdealArrays.lean ====
/-
  What the kernel's two result arrays hold after the run, as functions of the argument arrays: each of the 16 matrices of
  codes is `codesV`, and each of the 16 tables of scales is `scalesV`, of the four blocks of its own grid step.
-/
module

public import proofs.«01_k».proof.Proof.KernelIdealWhole
public import Idealize.ShloMosaic.Lib.Pipeline.Value

@[expose] public section
set_option maxRecDepth 16384
noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lora

variable {F : FTy → Type} [FloatOps F]
variable (m : (ℓ : Loc nD τ sig) → Buf (Elt F) ℓ) (ρ : Dev nD → PrngReg)

/-- Matrix `i` of the stack of codes, with its leading axis of one. -/
def matW (w : Vec F S16x1024x3584 .fp8e4m3) (i : Fin 16) : FVec F Cert.Lora.S1x1024x3584 .fp8e4m3 := fun x => w (ix3 i (x 1) (x 2))
/-- Table `i` of the stack of scales. -/
def matS (s : Vec F S16x8x28 .f32) (i : Fin 16) : FVec F Cert.Lora.S1x8x28 .f32 := fun x => s (ix3 i (x 1) (x 2))
/-- Matrix `i` of the stack `lora_a`. -/
def matA (a : Vec F S16x64x3584 .bf16) (i : Fin 16) : FVec F Cert.Lora.S1x64x3584 .bf16 := fun x => a (ix3 i (x 1) (x 2))
/-- Matrix `i` of the stack `lora_b`. -/
def matB (b : Vec F S16x1024x64 .bf16) (i : Fin 16) : FVec F Cert.Lora.S1x1024x64 .bf16 := fun x => b (ix3 i (x 1) (x 2))

/-- The array of codes. -/
def GC (w : Vec F S16x1024x3584 .fp8e4m3) (s : Vec F S16x8x28 .f32) (a : Vec F S16x64x3584 .bf16) (b : Vec F S16x1024x64 .bf16) :
    Vec F S16x1024x3584 .fp8e4m3 := fun y =>
  codesV (matW w (y 0)) (matS s (y 0)) (matA a (y 0)) (matB b (y 0)) (ix3 0 (y 1) (y 2))

/-- The array of scales. -/
def GS (w : Vec F S16x1024x3584 .fp8e4m3) (s : Vec F S16x8x28 .f32) (a : Vec F S16x64x3584 .bf16) (b : Vec F S16x1024x64 .bf16) :
    Vec F S16x8x28 .f32 := fun y =>
  scalesV (matW w (y 0)) (matS s (y 0)) (matA a (y 0)) (matB b (y 0)) (ix3 0 (y 1) (y 2))

/-- A grid point as a matrix's number. -/
def pt (t : Fin cfg0.N) : Fin 16 := ⟨t.val, lt_of_lt_of_eq t.isLt N_0⟩

/-- Window 0's block at grid point `t` is block `t` along the first axis. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- So index `j` of that block is index `(t, j 1, j 2)` of the array. -/
theorem emb0 (t : Fin cfg0.N) (j : Cert.Lora.S1x1024x3584.Idx) : ((cfg0.win 0).blk t).view.emb j = (ix3 (pt t) (j 1) (j 2) : S16x1024x3584.Idx) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 1024 + 1 * (j 1).val = (j 1).val; omega
  | ⟨2, _⟩ => show win0_0.index t (2 : Fin 3) * 3584 + 1 * (j 2).val = (j 2).val; omega

/-- Window 1's block at grid point `t` is block `t` along the first axis. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- So index `j` of that block is index `(t, j 1, j 2)` of the array. -/
theorem emb1 (t : Fin cfg0.N) (j : Cert.Lora.S1x8x28.Idx) : ((cfg0.win 1).blk t).view.emb j = (ix3 (pt t) (j 1) (j 2) : S16x8x28.Idx) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 8 + 1 * (j 1).val = (j 1).val; omega
  | ⟨2, _⟩ => show win0_1.index t (2 : Fin 3) * 28 + 1 * (j 2).val = (j 2).val; omega

/-- Window 2's block at grid point `t` is block `t` along the first axis. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- So index `j` of that block is index `(t, j 1, j 2)` of the array. -/
theorem emb2 (t : Fin cfg0.N) (j : Cert.Lora.S1x64x3584.Idx) : ((cfg0.win 2).blk t).view.emb j = (ix3 (pt t) (j 1) (j 2) : S16x64x3584.Idx) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val; omega
  | ⟨1, _⟩ => show win0_2.index t (1 : Fin 3) * 64 + 1 * (j 1).val = (j 1).val; omega
  | ⟨2, _⟩ => show win0_2.index t (2 : Fin 3) * 3584 + 1 * (j 2).val = (j 2).val; omega

/-- Window 3's block at grid point `t` is block `t` along the first axis. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- So index `j` of that block is index `(t, j 1, j 2)` of the array. -/
theorem emb3 (t : Fin cfg0.N) (j : Cert.Lora.S1x1024x64.Idx) : ((cfg0.win 3).blk t).view.emb j = (ix3 (pt t) (j 1) (j 2) : S16x1024x64.Idx) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 1024 + 1 * (j 1).val = (j 1).val; omega
  | ⟨2, _⟩ => show win0_3.index t (2 : Fin 3) * 64 + 1 * (j 2).val = (j 2).val; omega

/-- Window 4's block at grid point `t` is block `t` along the first axis. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- So index `j` of that block is index `(t, j 1, j 2)` of the array. -/
theorem emb4 (t : Fin cfg0.N) (j : Cert.Lora.S1x1024x3584.Idx) : ((cfg0.win 4).blk t).view.emb j = (ix3 (pt t) (j 1) (j 2) : S16x1024x3584.Idx) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 1024 + 1 * (j 1).val = (j 1).val; omega
  | ⟨2, _⟩ => show win0_4.index t (2 : Fin 3) * 3584 + 1 * (j 2).val = (j 2).val; omega

/-- Window 5's block at grid point `t` is block `t` along the first axis. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- So index `j` of that block is index `(t, j 1, j 2)` of the array. -/
theorem emb5 (t : Fin cfg0.N) (j : Cert.Lora.S1x8x28.Idx) : ((cfg0.win 5).blk t).view.emb j = (ix3 (pt t) (j 1) (j 2) : S16x8x28.Idx) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 8 + 1 * (j 1).val = (j 1).val; omega
  | ⟨2, _⟩ => show win0_5.index t (2 : Fin 3) * 28 + 1 * (j 2).val = (j 2).val; omega

/-- What input window 0 holds at grid point `t`. -/
theorem iblk0_eq (c : Dev nD) (t : Fin cfg0.N) : iblk m c 0 t = matW (V m c main_arg0) (pt t) := by
  funext j
  show V m c main_arg0 (((cfg0.win 0).blk t).view.emb j) = V m c main_arg0 (ix3 (pt t) (j 1) (j 2))
  rw [emb0]

/-- What input window 1 holds at grid point `t`. -/
theorem iblk1_eq (c : Dev nD) (t : Fin cfg0.N) : iblk m c 1 t = matS (V m c main_arg1) (pt t) := by
  funext j
  show V m c main_arg1 (((cfg0.win 1).blk t).view.emb j) = V m c main_arg1 (ix3 (pt t) (j 1) (j 2))
  rw [emb1]

/-- What input window 2 holds at grid point `t`. -/
theorem iblk2_eq (c : Dev nD) (t : Fin cfg0.N) : iblk m c 2 t = matA (V m c main_arg2) (pt t) := by
  funext j
  show V m c main_arg2 (((cfg0.win 2).blk t).view.emb j) = V m c main_arg2 (ix3 (pt t) (j 1) (j 2))
  rw [emb2]

/-- What input window 3 holds at grid point `t`. -/
theorem iblk3_eq (c : Dev nD) (t : Fin cfg0.N) : iblk m c 3 t = matB (V m c main_arg3) (pt t) := by
  funext j
  show V m c main_arg3 (((cfg0.win 3).blk t).view.emb j) = V m c main_arg3 (ix3 (pt t) (j 1) (j 2))
  rw [emb3]

/-- What grid point `t` writes back to output window 4 is its block of `GC`. -/
theorem flushed4_eq (c : Dev nD) (t : Fin cfg0.N) :
    (dats m 0 c).flushed 4 t = ((cfg0.win 4).blk t).view.read (Elt F) (GC (V m c main_arg0) (V m c main_arg1) (V m c main_arg2) (V m c main_arg3)) := by
  show (cfg0.win 4).cut (grid0.coords t) ((dats m 0 c).after 4 t) = _
  rw [after0_4, iblk0_eq, iblk1_eq, iblk2_eq, iblk3_eq]
  funext j
  show codesV _ _ _ _ j = GC _ _ _ _ (((cfg0.win 4).blk t).view.emb j)
  rw [emb4]
  have hj : j = (ix3 0 (j 1) (j 2) : Cert.Lora.S1x1024x3584.Idx) := by
    funext a; match a with
    | ⟨0, _⟩ => exact Fin.ext (Nat.lt_one_iff.mp (j 0).isLt)
    | ⟨1, _⟩ => rfl
    | ⟨2, _⟩ => rfl
  exact congrArg _ hj

/-- Every index of the array is in some grid point's block. -/
theorem covered4 (i : S16x1024x3584.Idx) :
    ∃ t : Fin cfg0.N, (cfg0.win 4).flush t = true ∧ i ∈ ((cfg0.win 4).blk t).view.set := by
  refine ⟨⟨(i 0).val, lt_of_lt_of_eq (i 0).isLt N_0.symm⟩, flush0_4 _, ?_⟩
  have h := ((cfg0.win 4).blk (⟨(i 0).val, lt_of_lt_of_eq (i 0).isLt N_0.symm⟩ : Fin cfg0.N)).view.emb_mem_set (ix3 0 (i 1) (i 2) : Cert.Lora.S1x1024x3584.Idx)
  rw [emb4] at h
  have e : (ix3 (pt ⟨(i 0).val, lt_of_lt_of_eq (i 0).isLt N_0.symm⟩) (i 1) (i 2) : S16x1024x3584.Idx) = i := (eq_ix3 i).symm
  exact e ▸ h

/-- The array of output window 4 after the run. -/
theorem final4 (c : Dev nD) : (dats m 0 c).arrAt 4 cfg0.N = GC (m ((c : Thread nD τ).loc main_arg0)) (m ((c : Thread nD τ).loc main_arg1)) (m ((c : Thread nD τ).loc main_arg2)) (m ((c : Thread nD τ).loc main_arg3)) :=
  ((dats m 0 c).arrAt_eq_of_cover 4 (GC (V m c main_arg0) (V m c main_arg1) (V m c main_arg2) (V m c main_arg3)) (fun t _ => flushed4_eq m c t) covered4).trans (by rw [V_main_arg0, V_main_arg1, V_main_arg2, V_main_arg3])

/-- What grid point `t` writes back to output window 5 is its block of `GS`. -/
theorem flushed5_eq (c : Dev nD) (t : Fin cfg0.N) :
    (dats m 0 c).flushed 5 t = ((cfg0.win 5).blk t).view.read (Elt F) (GS (V m c main_arg0) (V m c main_arg1) (V m c main_arg2) (V m c main_arg3)) := by
  show (cfg0.win 5).cut (grid0.coords t) ((dats m 0 c).after 5 t) = _
  rw [after0_5, iblk0_eq, iblk1_eq, iblk2_eq, iblk3_eq]
  funext j
  show scalesV _ _ _ _ j = GS _ _ _ _ (((cfg0.win 5).blk t).view.emb j)
  rw [emb5]
  have hj : j = (ix3 0 (j 1) (j 2) : Cert.Lora.S1x8x28.Idx) := by
    funext a; match a with
    | ⟨0, _⟩ => exact Fin.ext (Nat.lt_one_iff.mp (j 0).isLt)
    | ⟨1, _⟩ => rfl
    | ⟨2, _⟩ => rfl
  exact congrArg _ hj

/-- Every index of the array is in some grid point's block. -/
theorem covered5 (i : S16x8x28.Idx) :
    ∃ t : Fin cfg0.N, (cfg0.win 5).flush t = true ∧ i ∈ ((cfg0.win 5).blk t).view.set := by
  refine ⟨⟨(i 0).val, lt_of_lt_of_eq (i 0).isLt N_0.symm⟩, flush0_5 _, ?_⟩
  have h := ((cfg0.win 5).blk (⟨(i 0).val, lt_of_lt_of_eq (i 0).isLt N_0.symm⟩ : Fin cfg0.N)).view.emb_mem_set (ix3 0 (i 1) (i 2) : Cert.Lora.S1x8x28.Idx)
  rw [emb5] at h
  have e : (ix3 (pt ⟨(i 0).val, lt_of_lt_of_eq (i 0).isLt N_0.symm⟩) (i 1) (i 2) : S16x8x28.Idx) = i := (eq_ix3 i).symm
  exact e ▸ h

/-- The array of output window 5 after the run. -/
theorem final5 (c : Dev nD) : (dats m 0 c).arrAt 5 cfg0.N = GS (m ((c : Thread nD τ).loc main_arg0)) (m ((c : Thread nD τ).loc main_arg1)) (m ((c : Thread nD τ).loc main_arg2)) (m ((c : Thread nD τ).loc main_arg3)) :=
  ((dats m 0 c).arrAt_eq_of_cover 5 (GS (V m c main_arg0) (V m c main_arg1) (V m c main_arg2) (V m c main_arg3)) (fun t _ => flushed5_eq m c t) covered5).trans (by rw [V_main_arg0, V_main_arg1, V_main_arg2, V_main_arg3])

/-- The run: the two results at their functions of the arguments, the arguments unchanged. -/
theorem run : θ_run defs (onTc (τ := τ) (main (F := F))) ⟨m, fun _ => 0, ρ⟩ fun r => ∀ c : Dev nD,
      r.2.mem ((c : Thread nD τ).loc main_v0_0) = GC (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = GS (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.Exponent.lean ====
/-
  The exponent of a number at the ideal values, searched bit by bit and counted power by power. `power n` is the number
  whose exponent field is `n`: `2 ^ (n - 127)` for the fields `1 … 254` and `∞` for 255. The search and the count
  both find the last field whose power is not above `x`.
-/
module

public import Idealize.ShloMosaic.Lib.ValueIdx
public import Idealize.ShloMosaic.PureOps.Ideal.Laws

@[expose] public section

noncomputable section

namespace Cert.Lora

open Idealize.ShloMosaic

/-- The number whose exponent field is the word `f`, its other bits zero. -/
def powerW (f : BitVec 32) : EReal := Ideal.ofBits .f32 (f <<< 23)

/-- Two to an integer. -/
def two (e : ℤ) : EReal := ((2 : ℝ) ^ e : ℝ)

/-- The power of field `n`. -/
def power (n : ℕ) : EReal := if n = 255 then ⊤ else two ((n : ℤ) - 127)

theorem two_lt {a b : ℤ} (h : a < b) : two a < two b := by
  unfold two; exact_mod_cast zpow_lt_zpow_right₀ (by norm_num : (1:ℝ) < 2) h

/-- The sign, the exponent field and the fraction of a word whose exponent field alone is set. -/
theorem word_fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- The word of an exponent field from 1 to 255 read as a number. -/
theorem powerW_ofNat (n : ℕ) (h1 : 1 ≤ n) (h2 : n ≤ 255) : powerW (BitVec.ofNat 32 n) = power n := by
  obtain ⟨hs, he, hf⟩ := word_fields ⟨n, by omega⟩
  unfold powerW power two
  show Ideal.ieee 8 23 (BitVec.ofNat 32 n <<< 23) = _
  unfold Ideal.ieee
  simp only at hs he hf
  simp only [Nat.reduceAdd]
  rw [hs, he, hf]
  by_cases h : n = 255
  · rw [if_pos (by omega), if_pos rfl, if_pos h]; rfl
  · rw [if_neg (by omega), if_neg (by omega), if_neg h]
    refine congrArg (fun r : ℝ => (r : EReal)) ?_
    rw [if_neg Bool.false_ne_true, Nat.add_zero, one_mul]
    have h23 : ((2 ^ 23 : ℕ) : ℝ) = (2 : ℝ) ^ (23 : ℤ) := by norm_num
    rw [h23, ← zpow_add₀ (two_ne_zero)]
    refine congrArg (fun z : ℤ => (2 : ℝ) ^ z) ?_
    norm_num

/-- The powers rise with the field. -/
theorem power_le {a b : ℕ} (h : a ≤ b) (hb : b ≤ 255) : power a ≤ power b := by
  rcases Nat.eq_or_lt_of_le h with rfl | h
  · exact le_rfl
  unfold power
  by_cases h255 : b = 255
  · rw [if_pos h255]; exact le_top
  · rw [if_neg h255, if_neg (by omega)]
    exact (two_lt (by omega)).le

/-- One step of the search on numbers. -/
def stepN (x : EReal) (b f : ℕ) : ℕ := if power (f + b) ≤ x then f + b else f

/-- The search on numbers. -/
def fieldN (x : EReal) : ℕ :=
  stepN x 1 <| stepN x 2 <| stepN x 4 <| stepN x 8 <| stepN x 16 <| stepN x 32 <| stepN x 64 <| stepN x 128 0

/-- What a step keeps: `f` is a multiple of the bits still to come, its power is not above `x`, and the next one's is. -/
def Found (x : EReal) (b f : ℕ) : Prop :=
  b ∣ f ∧ f + b ≤ 256 ∧ (f = 0 ∨ power f ≤ x) ∧ (f + b = 256 ∨ ¬ power (f + b) ≤ x)

theorem found_step {x : EReal} {b f : ℕ} (hb : 0 < b) (h : Found x (2 * b) f) : Found x b (stepN x b f) := by
  obtain ⟨⟨k, rfl⟩, hle, h0, h1⟩ := h
  unfold stepN
  split
  · next hp =>
    refine ⟨⟨2 * k + 1, by ring⟩, by omega, .inr hp, ?_⟩
    rcases h1 with h1 | h1
    · left; omega
    · right; rwa [add_assoc, ← two_mul]
  · next hp => exact ⟨⟨2 * k, by ring⟩, by omega, h0, .inr hp⟩

theorem found (x : EReal) : Found x 1 (fieldN x) := by
  have h : Found x 256 0 := ⟨dvd_zero _, le_rfl, .inl rfl, .inl rfl⟩
  exact found_step (by decide) (found_step (by decide) (found_step (by decide) (found_step (by decide)
    (found_step (by decide) (found_step (by decide) (found_step (by decide) (found_step (by decide) h)))))))

theorem fieldN_le (x : EReal) : fieldN x ≤ 255 := by have := (found x).2.1; omega

/-- A field is not above the one found exactly when its power is not above `x`. -/
theorem le_fieldN {x : EReal} {n : ℕ} (h1 : 1 ≤ n) (h2 : n ≤ 255) : power n ≤ x ↔ n ≤ fieldN x := by
  obtain ⟨_, hle, h0, hn⟩ := found x
  constructor
  · intro hp
    by_contra hlt
    rcases hn with hn | hn
    · omega
    · exact hn ((power_le (by omega) h2).trans hp)
  · intro hf
    rcases h0 with h0 | h0
    · omega
    · exact (power_le hf (by omega)).trans h0

/-- Of `N` numbers the first `n` are below `n`. -/
theorem count_lt {N n : ℕ} (hn : n ≤ N) : (∑ k : Fin N, if k.val < n then (1 : EReal) else 0) = ((n : ℝ) : EReal) := by
  rw [Finset.sum_boole]
  have hc : (Finset.univ.filter fun k : Fin N => k.val < n).card = n := by
    rw [Fin.card_filter_val_lt]; omega
  rw [hc]; norm_cast

/-- The count of powers `2 ^ -126 … 2 ^ 127` that are not above a finite `x` is the field. -/
theorem count_eq {x : EReal} (hx : x ≠ ⊤) :
    (∑ k : Fin 254, if two ((k.val : ℤ) - 126) ≤ x then (1 : EReal) else 0) = ((fieldN x : ℝ) : EReal) := by
  have hf : fieldN x ≤ 254 := by
    by_contra h
    have h255 := (le_fieldN (x := x) (n := 255) (by decide) le_rfl).mpr (by omega)
    unfold power at h255
    rw [if_pos rfl, top_le_iff] at h255
    exact hx h255
  have hk : ∀ k : Fin 254, (two ((k.val : ℤ) - 126) ≤ x) ↔ k.val < fieldN x := by
    intro k
    have h := le_fieldN (x := x) (n := k.val + 1) (by omega) (by omega)
    unfold power at h
    rw [if_neg (by omega)] at h
    rw [show (k.val : ℤ) - 126 = ((k.val + 1 : ℕ) : ℤ) - 127 by push_cast; ring, h]
    omega
  simp only [hk]
  exact count_lt hf

/-- The exponent a field stands for: none at the two ends. -/
def expN (f : ℕ) : ℤ := if f = 0 ∨ f = 255 then 0 else (f : ℤ) - 126

/-- The scale of an exponent: two to it, `∞` beyond the last power there is. -/
def scaleN (e : ℤ) : EReal := if 127 < e then ⊤ else two e

/-- The inverse scale of an exponent: two to minus it, zero below the smallest power there is; what is beyond is `-∞`. -/
def invN (e : ℤ) : EReal := if 127 < e then ⊥ else if 126 < e then 0 else two (-e)

end Cert.Lora

end
-- ==== Proof.Spec.lean ====
/-
  The mathematics of one matrix at the ideal values: the merged matrix, the largest magnitude of a 128 × 128 block, the
  block's exponent, its scale, and the codes.
-/
module

public import proofs.«01_k».proof.Proof.Values
public import proofs.«01_k».proof.Proof.Exponent
public import Idealize.ShloMosaic.Lib.Pointwise

@[expose] public section

noncomputable section

namespace Cert.Lora

open Idealize.ShloMosaic

/-- Row (or column) `r` of block `p`, of `n` blocks of 128. -/
def at128 {n : ℕ} (p : Fin n) (r : Fin 128) : Fin (128 * n) := ⟨128 * p.val + r.val, by omega⟩

/-- One half. -/
def half : EReal := ((1 / 2 : ℝ) : EReal)

/-- The magnitude of an extended real. -/
def mag (x : EReal) : EReal := max x (-x)

section
variable (w : Fin 1024 → Fin 3584 → EReal) (s : Fin 8 → Fin 28 → EReal) (a : Fin 64 → Fin 3584 → EReal)
  (b : Fin 1024 → Fin 64 → EReal)

/-- The merged matrix at row `r` of block row `p`, column `c` of block column `q`. -/
def mg (p : Fin 8) (q : Fin 28) (r c : Fin 128) : EReal :=
  w (at128 p r) (at128 q c) * s p q + half * ∑ k : Fin 64, b (at128 p r) k * a k (at128 q c)

/-- The largest magnitude of a block of the merged matrix, over 448: the product with that number's nearest `f32`. -/
def quot (p : Fin 8) (q : Fin 28) : EReal :=
  (Finset.univ.sup fun x : Fin 128 × Fin 128 => mag (mg w s a b p q x.1 x.2)) * Ideal.ofBits .f32 0x3B124925#32

/-- The exponent of a block. -/
def expB (p : Fin 8) (q : Fin 28) : ℤ := expN (fieldN (quot w s a b p q))

/-- The scale of a block. -/
def scaleS (p : Fin 8) (q : Fin 28) : EReal := scaleN (expB w s a b p q)

/-- The code of one element of a block. -/
def codeS (p : Fin 8) (q : Fin 28) (r c : Fin 128) : EReal :=
  min (Ideal.ofBits .f32 0x43E00000#32) (max (Ideal.ofBits .f32 0xC3E00000#32)
    (mg w s a b p q r c * invN (expB w s a b p q)))

end

/-! ## Halves -/

theorem ofBits_half : Ideal.ofBits .f32 0x3F000000#32 = half := by
  unfold half; simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by simp [Ideal.ofBits, Ideal.ieee]

theorem two_half : ((2 : ℝ) : EReal) * half = 1 := by
  unfold half; rw [← EReal.coe_mul]; norm_num

/-- Half of twice. -/
theorem twice_half (x : EReal) : ((2 : ℝ) : EReal) * x * half = x := by
  rw [mul_comm ((2 : ℝ) : EReal) x, mul_assoc, two_half, mul_one]

/-- Twice a sum of a term and half of another. -/
theorem twice_add (x d : EReal) : ((2 : ℝ) : EReal) * (x + half * d) = d + x * ((2 : ℝ) : EReal) := by
  rw [EReal.left_distrib_of_nonneg_of_ne_top (by norm_num) (EReal.coe_ne_top _), ← mul_assoc, two_half, one_mul, add_comm,
    mul_comm x]

/-- Halving keeps the order. -/
theorem mono_half : Monotone fun x : EReal => x * half := by
  intro x y h
  exact mul_le_mul_of_nonneg_right h (by unfold half; norm_num)

/-- Half of twice a number's magnitude. -/
theorem mag_twice (x : EReal) : mag (((2 : ℝ) : EReal) * x) * half = mag x := by
  unfold mag
  rw [show max (((2 : ℝ) : EReal) * x) (-(((2 : ℝ) : EReal) * x)) * half
    = max (((2 : ℝ) : EReal) * x * half) (-(((2 : ℝ) : EReal) * x) * half) from mono_half.map_max, ← mul_neg,
    twice_half, twice_half]

/-- Half of the largest of a family is the largest of the halves. -/
theorem sup_half {ι : Type*} (S : Finset ι) (f : ι → EReal) : S.sup f * half = S.sup fun i => f i * half := by
  refine Finset.comp_sup_eq_sup_comp (fun x : EReal => x * half) (fun x y => mono_half.map_max) ?_
  show (⊥ : EReal) * half = ⊥
  unfold half
  exact EReal.bot_mul_coe_of_pos (by norm_num)

/-! ## The exponent's words -/

theorem fieldStep_eq (x : FVec Ideal S8x128 .f32) (f : IVec S8x128 32) (i : S8x128.Idx) {n : ℕ} (b : ℕ)
    (hf : f i = BitVec.ofNat 32 n) (hb : 1 ≤ b) (h : n + b ≤ 255) :
    fieldStep x (BitVec.ofNat 32 b) f i = BitVec.ofNat 32 (stepN (x i) b n) := by
  pointwise [fieldStep]
  rw [hf]
  have e : IntOp.addi (BitVec.ofNat 32 n) (BitVec.ofNat 32 b) = BitVec.ofNat 32 (n + b) := by
    simp [IntOp.addi, BitVec.ofNat_add]
  rw [e]
  have e2 : Ideal.ofBits .f32 (IntOp.shli .vector (BitVec.ofNat 32 (n + b)) 23#32) = power (n + b) := by
    rw [← powerW_ofNat _ (by omega) h]
    rfl
  rw [e2]
  unfold stepN
  split <;> rfl

/-- The exponent field the kernel finds. -/
theorem fieldOf_eq (x : FVec Ideal S8x128 .f32) (i : S8x128.Idx) : fieldOf x i = BitVec.ofNat 32 (fieldN (x i)) := by
  have h : Found (x i) 256 0 := ⟨dvd_zero _, le_rfl, .inl rfl, .inl rfl⟩
  have h7 := found_step (b := 128) (by decide) h
  have h6 := found_step (b := 64) (by decide) h7
  have h5 := found_step (b := 32) (by decide) h6
  have h4 := found_step (b := 16) (by decide) h5
  have h3 := found_step (b := 8) (by decide) h4
  have h2 := found_step (b := 4) (by decide) h3
  have h1 := found_step (b := 2) (by decide) h2
  unfold fieldOf fieldN
  refine fieldStep_eq x _ i 1 ?_ (by decide) (by have := h1.2.1; omega)
  refine fieldStep_eq x _ i 2 ?_ (by decide) (by have := h2.2.1; omega)
  refine fieldStep_eq x _ i 4 ?_ (by decide) (by have := h3.2.1; omega)
  refine fieldStep_eq x _ i 8 ?_ (by decide) (by have := h4.2.1; omega)
  refine fieldStep_eq x _ i 16 ?_ (by decide) (by have := h5.2.1; omega)
  refine fieldStep_eq x _ i 32 ?_ (by decide) (by have := h6.2.1; omega)
  refine fieldStep_eq x _ i 64 ?_ (by decide) (by have := h7.2.1; omega)
  exact fieldStep_eq x _ i 128 rfl (by decide) (by decide)

/-- The word of the scale's field, of the exponent's field `n`. -/
def fieldS (n : ℕ) : ℕ := if n = 0 ∨ n = 255 then 127 else n + 1

theorem scale_word : ∀ n : Fin 256, IntOp.addi (Scalar.select
      (IntOp.ori (IntOp.cmpi .eq (BitVec.ofNat 32 n.val) 0#32) (IntOp.cmpi .eq (BitVec.ofNat 32 n.val) 255#32))
      (0#32) (IntOp.subi (BitVec.ofNat 32 n.val) 126#32)) 127#32 = BitVec.ofNat 32 (fieldS n.val) := by
  decide +kernel

/-- The kernel's scale of a field is the scale of its exponent. -/
theorem scaleOf_eq (f : IVec S8x128 32) (i : S8x128.Idx) {n : ℕ} (hf : f i = BitVec.ofNat 32 n) (hn : n ≤ 255) :
    scaleOf (F := Ideal) (expOf f) i = scaleN (expN n) := by
  pointwise [scaleOf, expOf]
  rw [hf, scale_word ⟨n, by omega⟩]
  show powerW (BitVec.ofNat 32 (fieldS n)) = _
  unfold fieldS
  rw [powerW_ofNat _ (by split <;> omega) (by split <;> omega)]
  unfold scaleN expN power
  by_cases h : n = 0 ∨ n = 255
  · simp [h]
  · rw [if_neg h, if_neg h]
    by_cases h2 : n = 254
    · subst h2; simp
    · rw [if_neg (by omega), if_neg (by omega)]
      congr 1; push_cast; ring

/-- The word of the inverse scale's field, of the exponent's field `n`. -/
def fieldI (n : ℕ) : ℕ := if n = 0 ∨ n = 255 then 127 else 253 - n

theorem inv_word : ∀ n : Fin 256, n.val ≠ 254 → IntOp.subi 127#32 (Scalar.select
      (IntOp.ori (IntOp.cmpi .eq (BitVec.ofNat 32 n.val) 0#32) (IntOp.cmpi .eq (BitVec.ofNat 32 n.val) 255#32))
      (0#32) (IntOp.subi (BitVec.ofNat 32 n.val) 126#32)) = BitVec.ofNat 32 (fieldI n.val) := by
  decide +kernel

/-- The kernel's halved inverse scale of a field is half the inverse scale of its exponent. -/
theorem invOf_eq (f : IVec S8x128 32) (i : S8x128.Idx) {n : ℕ} (hf : f i = BitVec.ofNat 32 n) (hn : n ≤ 255) :
    invOf (F := Ideal) (expOf f) i = invN (expN n) * half := by
  pointwise [invOf, expOf]
  rw [hf, ofBits_half]
  congr 1
  by_cases h254 : n = 254
  · subst h254
    have : invN (expN 254) = ⊥ := by simp [invN, expN]
    rw [this]
    exact ofBits_bot
  rw [inv_word ⟨n, by omega⟩ h254]
  show powerW (BitVec.ofNat 32 (fieldI n)) = _
  unfold fieldI invN expN
  by_cases h : n = 0 ∨ n = 255
  · rw [if_pos h, if_pos h, powerW_ofNat _ (by decide) (by decide)]
    simp [power]
  · rw [if_neg h, if_neg h]
    by_cases h2 : n = 253
    · subst h2
      simp [powerW]
    · rw [powerW_ofNat _ (by omega) (by omega), if_neg (by omega), if_neg (by omega)]
      unfold power
      rw [if_neg (by omega)]
      congr 1; omega

end Cert.Lora

end
-- ==== Proof.KernelValue.lean ====
/-
  What the kernel computes of one matrix, at the ideal values: its codes and its scales are those of the mathematics of
  `Spec`. Each theorem reads one of the kernel's buffers (`Values`) at an index.
-/
module

public import proofs.«01_k».proof.Proof.Spec

@[expose] public section

noncomputable section

namespace Cert.Lora

open Idealize.ShloMosaic

/-! ## One tile -/

theorem select_if (c : Prop) [Decidable c] {α : Type} (x y : α) :
    Scalar.select (BitVec.ofBool (decide c)) x y = if c then x else y := by
  by_cases h : c <;> simp [Scalar.select, h]

theorem eye_word : ∀ r x : Fin 128, IntOp.cmpi .eq (BitVec.ofNat 32 (64 + x.val))
    (IntOp.addi (BitVec.ofNat 32 r.val) 64#32) = BitVec.ofBool (decide (x = r)) := by
  decide +kernel

/-- The constant part of the left operand: two on its diagonal. -/
theorem eye_apply (r x : Fin 128) : eye (F := Ideal) (ix2 r ⟨64 + x.val, by omega⟩)
    = if x = r then ((2 : ℝ) : EReal) else 0 := by
  pointwise [eye]
  rw [eye_word, select_if]
  have := ofBits_two
  split
  · exact this
  · rfl

/-- One element of a tile: the product of `lora_b` and `lora_a`, and the product of the diagonal with the scaled codes. -/
theorem tileM_apply (lhs : FVec Ideal S128x192 .bf16) (w : FVec Ideal S1x128x256 .fp8e4m3) (s s' : Ideal .f32)
    (a : FVec Ideal S1x64x256 .bf16) (r : Fin 128) (c : Fin 256) :
    tileM lhs w s s' a (ix2 r c) = (∑ x : Fin 64, lhs (ix2 r ⟨x.val, by omega⟩) * a (ix3 0 x c))
      + ∑ x : Fin 128, lhs (ix2 r ⟨64 + x.val, by omega⟩) * (w (ix3 0 x c) * if c.val < 128 then s else s') := by
  pointwise [tileM, tileRhs]
  refine congrArg₂ (· + ·) rfl (Finset.sum_congr rfl fun x _ => ?_)
  refine congrArg (lhs (ix2 r ⟨64 + x.val, by omega⟩) * ·) ?_
  by_cases h : c.val < 128
  · rw [dif_pos h, if_pos h]
  · rw [dif_neg h, if_neg h]
    have e : ∀ h', (⟨128 + (c.val - 128), h'⟩ : Fin 256) = c := fun h' => Fin.ext (by show 128 + (c.val - 128) = c.val; omega)
    rw [e]

section
variable (xw : FVec Ideal S1x1024x3584 .fp8e4m3) (xs : FVec Ideal S1x8x28 .f32) (xa : FVec Ideal S1x64x3584 .bf16)
  (xb : FVec Ideal S1x1024x64 .bf16)

/-- The merged matrix of the four blocks. -/
abbrev mgX (p : Fin 8) (q : Fin 28) (r c : Fin 128) : EReal :=
  mg (fun r c => xw (ix3 0 r c)) (fun p q => xs (ix3 0 p q)) (fun k c => xa (ix3 0 k c)) (fun r k => xb (ix3 0 r k)) p q r c

/-- The quotient of a block of the four blocks. -/
abbrev quotX (p : Fin 8) (q : Fin 28) : EReal :=
  quot (fun r c => xw (ix3 0 r c)) (fun p q => xs (ix3 0 p q)) (fun k c => xa (ix3 0 k c)) (fun r k => xb (ix3 0 r k)) p q

theorem lhs_left (p : Fin 8) (r : Fin 128) (k : Fin 64) :
    lhsV xb p.val (ix2 r ⟨k.val, by omega⟩) = xb (ix3 0 (at128 p r) k) := by
  have e : lhsV xb p.val (ix2 r ⟨k.val, by omega⟩) = headPay (rowsB xb p.val) (ix2 r k) := by
    rw [ix2_eq_valueIdx, ix2_eq_valueIdx]
    exact dif_pos (show k.val < 64 from k.isLt)
  rw [e]
  pointwise [headPay]
  have h : ∀ h, (⟨(128 * p.val + r.val) % 1024, h⟩ : Fin 1024) = at128 p r := fun h =>
    Fin.ext (by show (128 * p.val + r.val) % 1024 = 128 * p.val + r.val; omega)
  rw [← h (Nat.mod_lt _ (by decide)), ix3_eq_valueIdx, ix3_eq_valueIdx]
  rfl

theorem lhs_right (p : Fin 8) (r x : Fin 128) :
    lhsV xb p.val (ix2 r ⟨64 + x.val, by omega⟩) = if x = r then ((2 : ℝ) : EReal) else 0 := by
  rw [← eye_apply r x, ix2_eq_valueIdx, ix2_eq_valueIdx]
  exact dif_neg (show ¬ 64 + x.val < 64 by omega)

theorem tileW_apply (p : Fin 8) (q : Fin 28) (r c : Fin 128) :
    tileW xw p.val (q.val / 2) (ix3 0 r ⟨128 * (q.val % 2) + c.val, by omega⟩) = xw (ix3 0 (at128 p r) (at128 q c)) := by
  have h : ∀ h, (⟨(128 * p.val + r.val) % 1024, h⟩ : Fin 1024) = at128 p r := fun h =>
    Fin.ext (by show (128 * p.val + r.val) % 1024 = 128 * p.val + r.val; omega)
  have h' : ∀ h, (⟨(256 * (q.val / 2) + (128 * (q.val % 2) + c.val)) % 3584, h⟩ : Fin 3584) = at128 q c := fun h =>
    Fin.ext (by show (256 * (q.val / 2) + (128 * (q.val % 2) + c.val)) % 3584 = 128 * q.val + c.val; omega)
  rw [← h (Nat.mod_lt _ (by decide)), ← h' (Nat.mod_lt _ (by decide)), ix3_eq_valueIdx, ix3_eq_valueIdx]
  rfl

theorem tileA_apply (q : Fin 28) (k : Fin 64) (c : Fin 128) :
    tileA xa (q.val / 2) (ix3 0 k ⟨128 * (q.val % 2) + c.val, by omega⟩) = xa (ix3 0 k (at128 q c)) := by
  have h' : ∀ h, (⟨(256 * (q.val / 2) + (128 * (q.val % 2) + c.val)) % 3584, h⟩ : Fin 3584) = at128 q c := fun h =>
    Fin.ext (by show (256 * (q.val / 2) + (128 * (q.val % 2) + c.val)) % 3584 = 128 * q.val + c.val; omega)
  rw [← h' (Nat.mod_lt _ (by decide)), ix3_eq_valueIdx, ix3_eq_valueIdx]
  rfl

theorem blockS_apply (p : Fin 8) (q : Fin 28) (n : ℕ) (hn : n = q.val) : blockS xs p.val n = xs (ix3 0 p q) := by
  subst hn
  have h : ∀ h, (⟨p.val % 8, h⟩ : Fin 8) = p := fun h => Fin.ext (by show p.val % 8 = p.val; omega)
  have h' : ∀ h, (⟨q.val % 28, h⟩ : Fin 28) = q := fun h => Fin.ext (by show q.val % 28 = q.val; omega)
  unfold blockS
  rw [h, h', ix3_eq_valueIdx]

/-- A tile holds twice the merged matrix. -/
theorem mergedT_apply (p : Fin 8) (q : Fin 28) (r c : Fin 128) :
    mergedT xw xs xa xb p.val (q.val / 2) (ix2 r ⟨128 * (q.val % 2) + c.val, by omega⟩)
      = ((2 : ℝ) : EReal) * mgX xw xs xa xb p q r c := by
  unfold mergedT mgX mg
  rw [tileM_apply, twice_add]
  have hS : (if (⟨128 * (q.val % 2) + c.val, by omega⟩ : Fin 256).val < 128 then blockS xs p.val (2 * (q.val / 2))
      else blockS xs p.val (2 * (q.val / 2) + 1)) = xs (ix3 0 p q) := by
    by_cases h : q.val % 2 = 0
    · rw [if_pos (show 128 * (q.val % 2) + c.val < 128 by omega)]
      exact blockS_apply xs p q _ (by omega)
    · rw [if_neg (show ¬ 128 * (q.val % 2) + c.val < 128 by omega)]
      exact blockS_apply xs p q _ (by omega)
  rw [hS]
  refine congrArg₂ (· + ·) (Finset.sum_congr rfl fun k _ => ?_) ?_
  · rw [lhs_left, tileA_apply]
  · rw [Finset.sum_congr rfl fun x _ => by rw [lhs_right, tileW_apply, ite_mul, zero_mul], Finset.sum_ite_eq',
      if_pos (Finset.mem_univ _), mul_comm]

theorem mergedV_apply (p : Fin 8) (q : Fin 28) (r c : Fin 128) :
    mergedV xw xs xa xb p.val (ix2 r (at128 q c)) = ((2 : ℝ) : EReal) * mgX xw xs xa xb p q r c := by
  rw [← mergedT_apply]
  have h : (128 * q.val + c.val) / 256 = q.val / 2 := by omega
  have h' : (128 * q.val + c.val) % 256 = 128 * (q.val % 2) + c.val := by omega
  have e : mergedV xw xs xa xb p.val (ix2 r (at128 q c)) = mergedT xw xs xa xb p.val ((128 * q.val + c.val) / 256)
      (ix2 r ⟨(128 * q.val + c.val) % 256, Nat.mod_lt _ (by decide)⟩) := by
    rw [ix2_eq_valueIdx, ix2_eq_valueIdx]; rfl
  rw [e]
  simp only [h, h']

/-! ## The largest magnitude of a block -/

theorem fold_max_le {ι : Type*} [Fintype ι] (f : ι → EReal) (c : EReal) :
    Finset.fold max (Ideal.ofBits .f32 0xFF800000#32) f Finset.univ ≤ c ↔ ∀ x, f x ≤ c := by
  rw [ofBits_bot]
  exact (Finset.sup_le_iff (s := Finset.univ) (f := f)).trans (by simp)

theorem absf_mag (x : Ideal .f32) : FloatOps.absf x = mag x := rfl

theorem rowMaxL_le (m : FVec Ideal S128x256 .f32) (i : Fin 8) (l : Fin 128) (c : EReal) :
    rowMaxL m (ix2 i l) ≤ c ↔ ∀ x : Fin 16, mag (m (ix2 ⟨x.val * 8 + i.val, by omega⟩ ⟨l.val, by omega⟩)) ≤ c := by
  rw [← fold_max_le]
  refine iff_of_eq (congrArg (· ≤ c) ?_)
  pointwise [rowMaxL, rowMax]
  rfl

theorem rowMaxR_le (m : FVec Ideal S128x256 .f32) (i : Fin 8) (l : Fin 128) (c : EReal) :
    rowMaxR m (ix2 i l) ≤ c ↔ ∀ x : Fin 16, mag (m (ix2 ⟨x.val * 8 + i.val, by omega⟩ ⟨128 + l.val, by omega⟩)) ≤ c := by
  rw [← fold_max_le]
  refine iff_of_eq (congrArg (· ≤ c) ?_)
  pointwise [rowMaxR, rowMax]
  rfl

theorem maxR_le (p : Fin 8) (q : Fin 28) (i : Fin 8) (l : Fin 128) (c : EReal) :
    maxR xw xs xa xb p.val q.val (ix2 i l) ≤ c
      ↔ ∀ x : Fin 16, mag (((2 : ℝ) : EReal) * mgX xw xs xa xb p q ⟨x.val * 8 + i.val, by omega⟩ l) ≤ c := by
  unfold maxR
  simp only [← mergedT_apply]
  by_cases h : q.val % 2 = 0
  · rw [if_pos h, rowMaxL_le]
    simp only [h, Nat.mul_zero, Nat.zero_add]
  · have h : q.val % 2 = 1 := by omega
    rw [if_neg (by omega), rowMaxR_le]
    simp only [h, Nat.mul_one]

theorem maxS_apply (p : Fin 8) (q : Fin 28) (g : ℕ) (k : Fin 8) (i : Fin 8) (hq : q.val = 8 * g + i.val) (l : Fin 128) :
    maxS xw xs xa xb p.val g k.val (ix2 i l) = maxR xw xs xa xb p.val q.val (ix2 k l) := by
  have h : (64 * g + k.val + 8 * i.val) % 256 = 8 * q.val + k.val := by omega
  have e : maxS xw xs xa xb p.val g k.val (ix2 i l)
      = if (64 * g + k.val + 8 * i.val) % 256 < 224 then
          maxR xw xs xa xb p.val ((64 * g + k.val + 8 * i.val) % 256 / 8)
            (ix2 ⟨(64 * g + k.val + 8 * i.val) % 256 % 8, Nat.mod_lt _ (by decide)⟩ l)
        else Scalar.ofBits .f32 0x00000000#32 := by
    rw [ix2_eq_valueIdx, ix2_eq_valueIdx]; rfl
  have h1 : (8 * q.val + k.val) / 8 = q.val := by omega
  have h2 : (8 * q.val + k.val) % 8 = k.val := by omega
  rw [e]
  simp only [h, h1, h2]
  rw [if_pos (by omega)]

theorem amaxOf_apply (v0 v1 v2 v3 v4 v5 v6 v7 : FVec Ideal S8x128 .f32) (i : Fin 8) (l : Fin 128) :
    amaxOf v0 v1 v2 v3 v4 v5 v6 v7 (ix2 i l) = Finset.fold max (Ideal.ofBits .f32 0xFF800000#32)
      (fun x : Fin 128 => max (max (max (max (max (max (max (v0 (ix2 i x)) (v1 (ix2 i x))) (v2 (ix2 i x))) (v3 (ix2 i x)))
        (v4 (ix2 i x))) (v5 (ix2 i x))) (v6 (ix2 i x))) (v7 (ix2 i x))) Finset.univ
      * Ideal.ofBits .f32 0x3F000000#32 * Ideal.ofBits .f32 0x3B124925#32 := by
  pointwise [amaxOf]

/-- The largest magnitude over 448 of the block in row `i` of group `g`, in every lane. -/
theorem amax_apply (p : Fin 8) (q : Fin 28) (g : ℕ) (i : Fin 8) (hq : q.val = 8 * g + i.val) (l : Fin 128) :
    amaxOf (maxS xw xs xa xb p.val g 0) (maxS xw xs xa xb p.val g 1) (maxS xw xs xa xb p.val g 2)
      (maxS xw xs xa xb p.val g 3) (maxS xw xs xa xb p.val g 4) (maxS xw xs xa xb p.val g 5)
      (maxS xw xs xa xb p.val g 6) (maxS xw xs xa xb p.val g 7) (ix2 i l) = quotX xw xs xa xb p q := by
  rw [amaxOf_apply]
  unfold quotX quot
  rw [ofBits_half]
  refine congrArg (· * Ideal.ofBits .f32 0x3B124925#32) ?_
  have e : (Finset.univ.sup fun x : Fin 128 × Fin 128 => mag (mgX xw xs xa xb p q x.1 x.2))
      = (Finset.univ.sup fun x : Fin 128 × Fin 128 => mag (((2 : ℝ) : EReal) * mgX xw xs xa xb p q x.1 x.2)) * half := by
    rw [sup_half]; simp only [mag_twice]
  refine Eq.trans (congrArg (· * half) ?_) e.symm
  refine eq_of_forall_ge_iff fun c => ?_
  rw [fold_max_le, Finset.sup_le_iff]
  have hk := fun (k : Fin 8) (x : Fin 128) => maxS_apply xw xs xa xb p q g k i hq x
  have h0 := hk 0; have h1 := hk 1; have h2 := hk 2; have h3 := hk 3
  have h4 := hk 4; have h5 := hk 5; have h6 := hk 6; have h7 := hk 7
  simp only [Fin.isValue, show (0 : Fin 8).val = 0 from rfl, show (1 : Fin 8).val = 1 from rfl, show (2 : Fin 8).val = 2 from rfl,
    show (3 : Fin 8).val = 3 from rfl, show (4 : Fin 8).val = 4 from rfl, show (5 : Fin 8).val = 5 from rfl,
    show (6 : Fin 8).val = 6 from rfl, show (7 : Fin 8).val = 7 from rfl] at h0 h1 h2 h3 h4 h5 h6 h7
  simp only [h0, h1, h2, h3, h4, h5, h6, h7, max_le_iff]
  constructor
  · intro h y _
    have hy := h y.2
    have hm : ∀ k : Fin 8, maxR xw xs xa xb p.val q.val (ix2 k y.2) ≤ c := by
      intro k
      obtain ⟨⟨⟨⟨⟨⟨⟨a0, a1⟩, a2⟩, a3⟩, a4⟩, a5⟩, a6⟩, a7⟩ := hy
      fin_cases k
      exacts [a0, a1, a2, a3, a4, a5, a6, a7]
    have := (maxR_le xw xs xa xb p q ⟨y.1.val % 8, by omega⟩ y.2 c).mp (hm _) ⟨y.1.val / 8, by omega⟩
    have e : ∀ h, (⟨y.1.val / 8 * 8 + y.1.val % 8, h⟩ : Fin 128) = y.1 := fun h =>
      Fin.ext (by show y.1.val / 8 * 8 + y.1.val % 8 = y.1.val; omega)
    rw [e] at this
    exact this
  · intro h x
    have hm : ∀ k : Fin 8, maxR xw xs xa xb p.val q.val (ix2 k x) ≤ c := fun k =>
      (maxR_le xw xs xa xb p q k x c).mpr fun z => h (⟨z.val * 8 + k.val, by omega⟩, x) (Finset.mem_univ _)
    exact ⟨⟨⟨⟨⟨⟨⟨hm 0, hm 1⟩, hm 2⟩, hm 3⟩, hm 4⟩, hm 5⟩, hm 6⟩, hm 7⟩

/-! ## Scales, inverse scales and codes -/

/-- The exponent of a block of the four blocks. -/
abbrev expX (p : Fin 8) (q : Fin 28) : ℤ := expN (fieldN (quotX xw xs xa xb p q))

theorem field_apply (p : Fin 8) (q : Fin 28) (g : ℕ) (i : Fin 8) (hq : q.val = 8 * g + i.val) (l : Fin 128) :
    fieldOf (amaxOf (maxS xw xs xa xb p.val g 0) (maxS xw xs xa xb p.val g 1) (maxS xw xs xa xb p.val g 2)
      (maxS xw xs xa xb p.val g 3) (maxS xw xs xa xb p.val g 4) (maxS xw xs xa xb p.val g 5)
      (maxS xw xs xa xb p.val g 6) (maxS xw xs xa xb p.val g 7)) (ix2 i l)
      = BitVec.ofNat 32 (fieldN (quotX xw xs xa xb p q)) := by
  rw [fieldOf_eq, amax_apply xw xs xa xb p q g i hq l]

theorem scale_apply (p : Fin 8) (q : Fin 28) (g : ℕ) (i : Fin 8) (hq : q.val = 8 * g + i.val) (l : Fin 128) :
    scaleOf (F := Ideal) (expG xw xs xa xb p.val g) (ix2 i l) = scaleN (expX xw xs xa xb p q) :=
  scaleOf_eq _ _ (field_apply xw xs xa xb p q g i hq l) (fieldN_le _)

theorem inv_apply (p : Fin 8) (q : Fin 28) (g : ℕ) (i : Fin 8) (hq : q.val = 8 * g + i.val) (l : Fin 128) :
    invOf (F := Ideal) (expG xw xs xa xb p.val g) (ix2 i l) = invN (expX xw xs xa xb p q) * half :=
  invOf_eq _ _ (field_apply xw xs xa xb p q g i hq l) (fieldN_le _)

theorem invV_apply (p : Fin 8) (q : Fin 28) (l : Fin 128) :
    invV xw xs xa xb p.val (ix2 ⟨q.val % 32, Nat.mod_lt _ (by decide)⟩ l) = invN (expX xw xs xa xb p q) * half := by
  have h : q.val % 32 = q.val := by omega
  rw [← inv_apply xw xs xa xb p q (q.val / 8) ⟨q.val % 8, by omega⟩ (by show q.val = 8 * (q.val / 8) + q.val % 8; omega) l]
  simp only [h]
  rw [ix2_eq_valueIdx, ix2_eq_valueIdx]; rfl

theorem quantPay_apply (y : FVec Ideal S128x128 .f32) (inv : FVec Ideal S1x128 .f32) (r c : Fin 128) :
    quantPay y inv (ix3 0 r c) = min (Ideal.ofBits .f32 0x43E00000#32) (max (Ideal.ofBits .f32 0xC3E00000#32)
      (y (ix2 r c) * inv (ix2 0 c))) := by
  pointwise [quantPay]

/-- The kernel's codes. -/
theorem codesV_apply (p : Fin 8) (q : Fin 28) (r c : Fin 128) :
    codesV xw xs xa xb (ix3 0 (at128 p r) (at128 q c))
      = codeS (fun r c => xw (ix3 0 r c)) (fun p q => xs (ix3 0 p q)) (fun k c => xa (ix3 0 k c)) (fun r k => xb (ix3 0 r k))
          p q r c := by
  have hp : (128 * p.val + r.val) / 128 = p.val := by omega
  have hr : (128 * p.val + r.val) % 128 = r.val := by omega
  have hq : (128 * q.val + c.val) / 128 = q.val := by omega
  have hc : (128 * q.val + c.val) % 128 = c.val := by omega
  have e : codesV xw xs xa xb (ix3 0 (at128 p r) (at128 q c))
      = codesB xw xs xa xb ((128 * p.val + r.val) / 128) ((128 * q.val + c.val) / 128)
        (ix3 0 ⟨(128 * p.val + r.val) % 128, Nat.mod_lt _ (by decide)⟩
          ⟨(128 * q.val + c.val) % 128, Nat.mod_lt _ (by decide)⟩) := by
    rw [ix3_eq_valueIdx, ix3_eq_valueIdx]; rfl
  rw [e]
  simp only [hp, hr, hq, hc]
  unfold codesB
  rw [quantPay_apply]
  have e1 : ∀ h, (⟨(128 * q.val + c.val) % 3584, h⟩ : Fin 3584) = at128 q c := fun h =>
    Fin.ext (by show (128 * q.val + c.val) % 3584 = 128 * q.val + c.val; omega)
  have h1 := mergedV_apply xw xs xa xb p q r c
  rw [← e1 (Nat.mod_lt _ (by decide)), ix2_eq_valueIdx] at h1
  have h2 := invV_apply xw xs xa xb p q c
  rw [ix2_eq_valueIdx] at h2
  have h3 : ((2 : ℝ) : EReal) * mgX xw xs xa xb p q r c * (invN (expX xw xs xa xb p q) * half)
      = mgX xw xs xa xb p q r c * invN (expX xw xs xa xb p q) := by
    rw [mul_comm (invN _) half, ← mul_assoc, twice_half]
  unfold codeS
  refine congrArg (fun t => min (Ideal.ofBits .f32 0x43E00000#32) (max (Ideal.ofBits .f32 0xC3E00000#32) t)) ?_
  exact (congrArg₂ (· * ·) h1 h2).trans h3

theorem diag_word : ∀ (q : Fin 28) (x : Fin 8),
    IntOp.cmpi .eq (IntOp.subi (BitVec.ofNat 32 q.val) (BitVec.ofNat 32 x.val)) 24#32 = BitVec.ofBool (decide (q.val = 24 + x.val))
    ∧ IntOp.cmpi .eq (IntOp.subi (BitVec.ofNat 32 q.val) (BitVec.ofNat 32 x.val)) 16#32 = BitVec.ofBool (decide (q.val = 16 + x.val))
    ∧ IntOp.cmpi .eq (IntOp.subi (BitVec.ofNat 32 q.val) (BitVec.ofNat 32 x.val)) 8#32 = BitVec.ofBool (decide (q.val = 8 + x.val))
    ∧ IntOp.cmpi .eq (IntOp.subi (BitVec.ofNat 32 q.val) (BitVec.ofNat 32 x.val)) 0#32 = BitVec.ofBool (decide (q.val = x.val)) := by
  decide +kernel

/-- The row of scales reads each group's scale of its own block: the one row that the lane selects. -/
theorem scaleRow_apply (s0 s1 s2 s3 : FVec Ideal S8x128 .f32) (q : Fin 28) :
    scaleRow s0 s1 s2 s3 (ix3 0 0 q) = ∑ x : Fin 8,
      if q.val = 24 + x.val then s3 (ix2 x ⟨q.val, by omega⟩) else if q.val = 16 + x.val then s2 (ix2 x ⟨q.val, by omega⟩)
      else if q.val = 8 + x.val then s1 (ix2 x ⟨q.val, by omega⟩) else if q.val = x.val then s0 (ix2 x ⟨q.val, by omega⟩)
      else (0 : EReal) := by
  pointwise [scaleRow, diag]
  refine Finset.sum_congr rfl fun x _ => ?_
  obtain ⟨h3, h2, h1, h0⟩ := diag_word q x
  rw [h3, h2, h1, h0, select_if, select_if, select_if, select_if]

/-- The kernel's scales. -/
theorem scalesV_apply (p : Fin 8) (q : Fin 28) : scalesV xw xs xa xb (ix3 0 p q)
    = scaleS (fun r c => xw (ix3 0 r c)) (fun p q => xs (ix3 0 p q)) (fun k c => xa (ix3 0 k c)) (fun r k => xb (ix3 0 r k))
        p q := by
  have e : scalesV xw xs xa xb (ix3 0 p q) = scaleR xw xs xa xb p.val (ix3 0 0 q) := by
    rw [ix3_eq_valueIdx, ix3_eq_valueIdx]; rfl
  rw [e]
  unfold scaleR
  rw [scaleRow_apply, Finset.sum_eq_single (⟨q.val % 8, by omega⟩ : Fin 8)]
  · have hs := fun (g : ℕ) (i : Fin 8) (hq : q.val = 8 * g + i.val) => scale_apply xw xs xa xb p q g i hq ⟨q.val, by omega⟩
    have hg : q.val / 8 = 3 ∨ q.val / 8 = 2 ∨ q.val / 8 = 1 ∨ q.val / 8 = 0 := by omega
    show _ = scaleN (expX xw xs xa xb p q)
    rcases hg with hg | hg | hg | hg
    · rw [if_pos (show q.val = 24 + q.val % 8 by omega)]
      exact hs 3 _ (show q.val = 8 * 3 + q.val % 8 by omega)
    · rw [if_neg (show ¬ q.val = 24 + q.val % 8 by omega), if_pos (show q.val = 16 + q.val % 8 by omega)]
      exact hs 2 _ (show q.val = 8 * 2 + q.val % 8 by omega)
    · rw [if_neg (show ¬ q.val = 24 + q.val % 8 by omega), if_neg (show ¬ q.val = 16 + q.val % 8 by omega),
        if_pos (show q.val = 8 + q.val % 8 by omega)]
      exact hs 1 _ (show q.val = 8 * 1 + q.val % 8 by omega)
    · rw [if_neg (show ¬ q.val = 24 + q.val % 8 by omega), if_neg (show ¬ q.val = 16 + q.val % 8 by omega),
        if_neg (show ¬ q.val = 8 + q.val % 8 by omega), if_pos (show q.val = q.val % 8 by omega)]
      exact hs 0 _ (show q.val = 8 * 0 + q.val % 8 by omega)
  · intro x _ hx
    have hx : x.val ≠ q.val % 8 := fun h => hx (Fin.ext h)
    rw [if_neg (by omega), if_neg (by omega), if_neg (by omega), if_neg (by omega)]
  · intro h
    exact absurd (Finset.mem_univ _) h

end

end Cert.Lora

end
-- ==== Proof.ReferenceValue.lean ====
/-
  What the reference computes: at the ideal values its codes and scales are those of the mathematics of one matrix
  (`Spec`), taken of each of the sixteen matrices.
-/
module

public import proofs.«01_k».proof.Proof.Gen.ReferenceIdeal.Value
public import proofs.«01_k».proof.Proof.Spec

@[expose] public section

set_option maxRecDepth 16384

noncomputable section

namespace Cert.ReferenceIdeal.Gen

open Idealize.ShloMosaic Cert.ReferenceIdeal Cert.Lora

/-! ## The reference's vector expressions -/

/-- The powers of two from `2^-126` to `2^127`, for each block. -/
def powers : FVec Ideal S16x8x28x254 .f32 :=
  exp2 (sitofp .f32 (subi (iota .tc S16x8x28x254 32 [3] iota_S16x8x28x254_d3_w32) (broadcast S16x8x28x254 126#32)))

/-- One where a block's number is at least the power, zero elsewhere. -/
def flags (X : FVec Ideal S16x8x28 .f32) (Y : FVec Ideal S16x8x28x254 .f32) : FVec Ideal S16x8x28x254 .f32 :=
  select (cmpf .oge (broadcastTo S16x8x28x254 (shapeCast S16x8x28x1 X shapeCasts_S16x8x28_S16x8x28x1)
      broadcasts_S16x8x28x1_S16x8x28x254) Y)
    (broadcast S16x8x28x254 (Scalar.ofBits .f32 0x3F800000#32 : Ideal .f32))
    (broadcast S16x8x28x254 (Scalar.ofBits .f32 0x00000000#32 : Ideal .f32))

/-- The sum over the powers, less 126. -/
def total (X : FVec Ideal S16x8x28x254 .f32) : FVec Ideal S16x8x28 .f32 :=
  subf (multiReduction .add [3] S16x8x28 X 0x00000000#32 reduces_S16x8x28x254_S16x8x28 (.inl rfl) rfl)
    (broadcast S16x8x28 (Scalar.ofBits .f32 0x42FC0000#32 : Ideal .f32))

/-- Whether a block's number has no exponent: it is below `2^-126`, or infinite. -/
def noneOf (X : FVec Ideal S16x8x28 .f32) : IVec S16x8x28 1 :=
  ori (cmpf .olt X (broadcast S16x8x28 (Scalar.ofBits .f32 0x00800000#32 : Ideal .f32)))
    (cmpf .oeq X (broadcast S16x8x28 (Scalar.ofBits .f32 0x7F800000#32 : Ideal .f32)))

/-- The largest number of each block. -/
def largest (M : FVec Ideal S16x8x128x28x128 .f32) : FVec Ideal S16x8x28 .f32 :=
  multiReduction .maximumf [2, 4] S16x8x28 M 0xFF800000#32 reduces_S16x8x128x28x128_S16x8x28 (.inl rfl) rfl

section
variable (w : Vec Ideal S16x1024x3584 .fp8e4m3) (s : Vec Ideal S16x8x28 .f32) (b : Vec Ideal S16x1024x64 .bf16)
  (a : Vec Ideal S16x64x3584 .bf16)

theorem pay5_eq : k0_pay5 (F := Ideal) w s b a = mulf (largest (absf (k0_pay4 (F := Ideal) w s b a)))
    (broadcast S16x8x28 (Scalar.ofBits .f32 0x3B124925#32 : Ideal .f32)) := rfl

theorem pay6_eq : k0_pay6 (F := Ideal) w s b a = total (flags (k0_pay5 (F := Ideal) w s b a) powers) := rfl

theorem pay7_eq : k0_pay7 (F := Ideal) w s b a = noneOf (k0_pay5 (F := Ideal) w s b a) := rfl

end

/-! ## Each at an index -/

theorem toInt_sub : ∀ k : Fin 254, (IntOp.subi (BitVec.ofNat 32 k.val) 126#32).toInt = (k.val : ℤ) - 126 := by
  decide +kernel

theorem powers_apply (i : Fin 16) (p : Fin 8) (q : Fin 28) (k : Fin 254) :
    powers (ix4 i p q k) = two ((k.val : ℤ) - 126) := by
  have h : powers (ix4 i p q k) = ((Real.rpow 2 ((IntOp.subi (BitVec.ofNat 32 k.val) 126#32).toInt : ℤ) : ℝ) : EReal) := by
    pointwise [powers]
    rfl
  rw [h, toInt_sub]
  unfold two
  refine congrArg (fun r : ℝ => (r : EReal)) ?_
  exact Real.rpow_intCast 2 _

theorem flags_apply (X : FVec Ideal S16x8x28 .f32) (Y : FVec Ideal S16x8x28x254 .f32) (i : Fin 16) (p : Fin 8) (q : Fin 28)
    (k : Fin 254) : flags X Y (ix4 i p q k) = if Y (ix4 i p q k) ≤ X (ix3 i p q) then (1 : EReal) else 0 := by
  pointwise [flags]

theorem total_apply (X : FVec Ideal S16x8x28x254 .f32) (i : Fin 16) (p : Fin 8) (q : Fin 28) :
    total X (ix3 i p q) = ∑ k : Fin 254, X (ix4 i p q k) - Ideal.ofBits .f32 0x42FC0000#32 := by
  pointwise [total]

theorem noneOf_apply (X : FVec Ideal S16x8x28 .f32) (i : S16x8x28.Idx) :
    noneOf X i = IntOp.ori (BitVec.ofBool (decide (X i < Ideal.ofBits .f32 0x00800000#32)))
      (BitVec.ofBool (decide (X i = Ideal.ofBits .f32 0x7F800000#32))) := rfl

theorem largest_apply (M : FVec Ideal S16x8x128x28x128 .f32) (i : Fin 16) (p : Fin 8) (q : Fin 28) :
    largest M (ix3 i p q) = Finset.univ.sup fun x : Fin 128 × Fin 128 => M (ix5 i p x.1 q x.2) := by
  have h : largest M (ix3 i p q) = Finset.fold max (Ideal.ofBits .f32 0xFF800000#32) M
      {x | reduces_S16x8x128x28x128_S16x8x28.drop x = ix3 i p q} := by
    pointwise [largest]
  rw [h, ofBits_bot]
  refine eq_of_forall_ge_iff fun c => ?_
  have e : Finset.fold max (⊥ : EReal) M {x | reduces_S16x8x128x28x128_S16x8x28.drop x = ix3 i p q} ≤ c
      ↔ ∀ x, reduces_S16x8x128x28x128_S16x8x28.drop x = ix3 i p q → M x ≤ c := by
    refine (Finset.sup_le_iff (s := {x | reduces_S16x8x128x28x128_S16x8x28.drop x = ix3 i p q}) (f := M)).trans ?_
    simp only [Finset.mem_filter, Finset.mem_univ, true_and]
  rw [e, Finset.sup_le_iff]
  constructor
  · intro hx y _
    refine hx _ ?_
    funext k
    fin_cases k <;> rfl
  · intro hx x hd
    have h0 : x 0 = i := congrFun hd 0
    have h1 : x 1 = p := congrFun hd 1
    have h2 : x 3 = q := congrFun hd 2
    have hy := hx (x 2, x 4) (Finset.mem_univ _)
    have e : x = ix5 i p (x 2) q (x 4) := by
      rw [← h0, ← h1, ← h2]
      funext k
      fin_cases k <;> rfl
    rw [e]
    exact hy

theorem select_ofBool (c : Prop) [Decidable c] (x y : EReal) :
    Scalar.select (BitVec.ofBool (decide c)) x y = if c then x else y := by
  by_cases h : c <;> simp [Scalar.select, h]

theorem ori_ofBool (c d : Prop) [Decidable c] [Decidable d] :
    IntOp.ori (BitVec.ofBool (decide c)) (BitVec.ofBool (decide d)) = BitVec.ofBool (decide (c ∨ d)) := by
  by_cases h : c <;> by_cases h' : d <;> simp [IntOp.ori, h, h']

theorem ofBits_power1 : Ideal.ofBits .f32 0x00800000#32 = power 1 := by
  rw [← powerW_ofNat 1 (by decide) (by decide)]; rfl

theorem ofBits_top : Ideal.ofBits .f32 0x7F800000#32 = (⊤ : EReal) := by simp [Ideal.ofBits, Ideal.ieee]

theorem ofBits_126 : Ideal.ofBits .f32 0x42FC0000#32 = ((126 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

/-- The reference's exponent of a number. -/
theorem exponent_eq (x : EReal) :
    Scalar.select (IntOp.ori (BitVec.ofBool (decide (x < Ideal.ofBits .f32 0x00800000#32)))
      (BitVec.ofBool (decide (x = Ideal.ofBits .f32 0x7F800000#32)))) (0 : EReal)
      ((∑ k : Fin 254, if two ((k.val : ℤ) - 126) ≤ x then (1 : EReal) else 0) - Ideal.ofBits .f32 0x42FC0000#32)
    = (((expN (fieldN x) : ℤ) : ℝ) : EReal) := by
  rw [ori_ofBool, select_ofBool, ofBits_power1, ofBits_top, ofBits_126]
  have hl := fieldN_le x
  have h1 : x < power 1 ↔ fieldN x = 0 := by
    have := le_fieldN (x := x) (n := 1) (by decide) (by decide)
    rw [← not_le, this]; omega
  have h2 : x = ⊤ ↔ fieldN x = 255 := by
    have := le_fieldN (x := x) (n := 255) (by decide) (by decide)
    rw [show power 255 = ⊤ from rfl, top_le_iff] at this
    rw [this]; omega
  unfold expN
  by_cases h : fieldN x = 0 ∨ fieldN x = 255
  · rw [if_pos h, if_pos (by rw [h1, h2]; exact h)]; simp
  · rw [if_neg h, if_neg (by rw [h1, h2]; exact h), count_eq (fun hx => h (.inr (h2.mp hx))), ← EReal.coe_sub]
    refine congrArg (fun r : ℝ => (r : EReal)) ?_
    push_cast
    ring

theorem exp2_int (e : ℤ) : Ideal.exp2 (((e : ℤ) : ℝ) : EReal) = two e := by
  rw [Ideal.exp2_coe]
  unfold two
  exact congrArg (fun r : ℝ => (r : EReal)) (Real.rpow_intCast 2 _)

/-- The reference's scale of an exponent. -/
theorem scale_eq (e : ℤ) : (if Ideal.ofBits .f32 0x42FE0000#32 < (((e : ℤ) : ℝ) : EReal) then Ideal.ofBits .f32 0x7F800000#32
    else Ideal.exp2 (((e : ℤ) : ℝ) : EReal)) = scaleN e := by
  rw [ofBits_127, ofBits_top, exp2_int]
  unfold scaleN
  have h : ((127 : ℝ) : EReal) < (((e : ℤ) : ℝ) : EReal) ↔ 127 < e := by
    rw [EReal.coe_lt_coe_iff]; exact_mod_cast Iff.rfl
  simp only [h]

/-- The reference's inverse scale of an exponent. -/
theorem inv_eq (e : ℤ) : (if Ideal.ofBits .f32 0x42FE0000#32 < (((e : ℤ) : ℝ) : EReal) then Ideal.ofBits .f32 0xFF800000#32
    else if Ideal.ofBits .f32 0x42FC0000#32 < (((e : ℤ) : ℝ) : EReal) then 0
    else Ideal.exp2 (0 - (((e : ℤ) : ℝ) : EReal))) = invN e := by
  have h0 : (0 : EReal) - (((e : ℤ) : ℝ) : EReal) = (((-e : ℤ) : ℝ) : EReal) := by
    rw [zero_sub]; push_cast; rfl
  rw [ofBits_127, ofBits_bot, ofBits_126, h0, exp2_int]
  unfold invN
  have h : ((127 : ℝ) : EReal) < (((e : ℤ) : ℝ) : EReal) ↔ 127 < e := by
    rw [EReal.coe_lt_coe_iff]; exact_mod_cast Iff.rfl
  have h' : ((126 : ℝ) : EReal) < (((e : ℤ) : ℝ) : EReal) ↔ 126 < e := by
    rw [EReal.coe_lt_coe_iff]; exact_mod_cast Iff.rfl
  simp only [h, h']

/-! ## The reference's two results, a payload at a time -/

theorem pay4_apply (w : Vec Ideal S16x1024x3584 .fp8e4m3) (s : Vec Ideal S16x8x28 .f32) (b : Vec Ideal S16x1024x64 .bf16)
    (a : Vec Ideal S16x64x3584 .bf16) (i : Fin 16) (p : Fin 8) (q : Fin 28) (r c : Fin 128) :
    k0_pay4 (F := Ideal) w s b a (ix5 i p r q c)
      = mg (fun r c => w (ix3 i r c)) (fun p q => s (ix3 i p q)) (fun k c => a (ix3 i k c)) (fun r k => b (ix3 i r k)) p q r c := by
  have hp : ∀ h, (⟨p.val * 128 + r.val, h⟩ : Fin 1024) = at128 p r := fun h => Fin.ext (by show p.val * 128 + r.val = 128 * p.val + r.val; omega)
  have hq : ∀ h, (⟨q.val * 128 + c.val, h⟩ : Fin 3584) = at128 q c := fun h => Fin.ext (by show q.val * 128 + c.val = 128 * q.val + c.val; omega)
  unfold mg
  rw [← ofBits_half]
  pointwise [k0_pay4]
  simp only [hp, hq]

theorem pay2_apply (e : FVec Ideal S16x8x28 .f32) (z : IVec S16x8x28 1) (i : Fin 16) (p : Fin 8) (q : Fin 28) :
    k0_pay2 (F := Ideal) e z (ix3 i p q)
      = if Ideal.ofBits .f32 0x42FE0000#32 < Scalar.select (z (ix3 i p q)) (0 : EReal) (e (ix3 i p q))
        then Ideal.ofBits .f32 0x7F800000#32
        else Ideal.exp2 (Scalar.select (z (ix3 i p q)) (0 : EReal) (e (ix3 i p q))) := by
  pointwise [k0_pay2, k0_pay1]
  rfl

theorem pay3_apply (m : FVec Ideal S16x8x128x28x128 .f32) (e : FVec Ideal S16x8x28 .f32) (z : IVec S16x8x28 1)
    (i : Fin 16) (p : Fin 8) (q : Fin 28) (r c : Fin 128) :
    k0_pay3 (F := Ideal) m e z (ix3 i (at128 p r) (at128 q c))
      = min (Ideal.ofBits .f32 0x43E00000#32) (max (Ideal.ofBits .f32 0xC3E00000#32) (m (ix5 i p r q c)
        * if Ideal.ofBits .f32 0x42FE0000#32 < Scalar.select (z (ix3 i p q)) (0 : EReal) (e (ix3 i p q))
          then Ideal.ofBits .f32 0xFF800000#32
          else if Ideal.ofBits .f32 0x42FC0000#32 < Scalar.select (z (ix3 i p q)) (0 : EReal) (e (ix3 i p q)) then 0
          else Ideal.exp2 (0 - Scalar.select (z (ix3 i p q)) (0 : EReal) (e (ix3 i p q))))) := by
  have hp : ∀ h, (⟨(at128 p r).val / 128, h⟩ : Fin 8) = p := fun h => Fin.ext (by show (128 * p.val + r.val) / 128 = _; omega)
  have hr : ∀ h, (⟨(at128 p r).val % 128, h⟩ : Fin 128) = r := fun h => Fin.ext (by show (128 * p.val + r.val) % 128 = _; omega)
  have hq : ∀ h, (⟨(at128 q c).val / 128, h⟩ : Fin 28) = q := fun h => Fin.ext (by show (128 * q.val + c.val) / 128 = _; omega)
  have hc : ∀ h, (⟨(at128 q c).val % 128, h⟩ : Fin 128) = c := fun h => Fin.ext (by show (128 * q.val + c.val) % 128 = _; omega)
  generalize at128 p r = P at *
  generalize at128 q c = Q at *
  pointwise [k0_pay3, k0_pay1]
  simp only [hp, hr, hq, hc]
  rfl

section
variable (w : Vec Ideal S16x1024x3584 .fp8e4m3) (s : Vec Ideal S16x8x28 .f32) (b : Vec Ideal S16x1024x64 .bf16)
  (a : Vec Ideal S16x64x3584 .bf16) (i : Fin 16) (p : Fin 8) (q : Fin 28)

theorem pay5_apply : k0_pay5 (F := Ideal) w s b a (ix3 i p q)
    = quot (fun r c => w (ix3 i r c)) (fun p q => s (ix3 i p q)) (fun k c => a (ix3 i k c)) (fun r k => b (ix3 i r k)) p q := by
  have h : ∀ (L : FVec Ideal S16x8x28 .f32) (x : S16x8x28.Idx),
      mulf L (broadcast S16x8x28 (Scalar.ofBits .f32 0x3B124925#32 : Ideal .f32)) x
        = L x * Ideal.ofBits .f32 0x3B124925#32 := fun _ _ => rfl
  have h' : ∀ (M : FVec Ideal S16x8x128x28x128 .f32) (x : S16x8x128x28x128.Idx), absf M x = mag (M x) := fun _ _ => rfl
  rw [pay5_eq, h, largest_apply]
  unfold quot
  simp only [h', pay4_apply]

/-- The reference's exponent at a block. -/
theorem exponent_apply : Scalar.select (k0_pay7 (F := Ideal) w s b a (ix3 i p q)) (0 : EReal)
      (k0_pay6 (F := Ideal) w s b a (ix3 i p q))
    = (((expB (fun r c => w (ix3 i r c)) (fun p q => s (ix3 i p q)) (fun k c => a (ix3 i k c)) (fun r k => b (ix3 i r k))
        p q : ℤ) : ℝ) : EReal) := by
  rw [pay6_eq, pay7_eq, total_apply, noneOf_apply]
  simp only [flags_apply, powers_apply, pay5_apply]
  exact exponent_eq _

theorem scales_apply : k0_pay2 (F := Ideal) (k0_pay6 (F := Ideal) w s b a) (k0_pay7 (F := Ideal) w s b a) (ix3 i p q)
    = scaleS (fun r c => w (ix3 i r c)) (fun p q => s (ix3 i p q)) (fun k c => a (ix3 i k c)) (fun r k => b (ix3 i r k)) p q := by
  rw [pay2_apply, exponent_apply, scale_eq]
  rfl

theorem codes_apply (r c : Fin 128) : k0_pay3 (F := Ideal) (k0_pay4 (F := Ideal) w s b a) (k0_pay6 (F := Ideal) w s b a)
      (k0_pay7 (F := Ideal) w s b a) (ix3 i (at128 p r) (at128 q c))
    = codeS (fun r c => w (ix3 i r c)) (fun p q => s (ix3 i p q)) (fun k c => a (ix3 i k c)) (fun r k => b (ix3 i r k))
        p q r c := by
  rw [pay3_apply, exponent_apply, inv_eq, pay4_apply]
  rfl

theorem pay8_eq : k0_pay8 (F := Ideal) w s a b = k0_pay6 (F := Ideal) w s b a := by
  have hz : (![0, 0, 0] : Fin 3 → Nat) = fun _ => 0 := funext fun a => by fin_cases a <;> rfl
  unfold k0_pay8 r0_0 r0_1 r0_2 r0_3
  rw [View.ld_unit_zero hz, View.ld_unit_zero hz, View.ld_unit_zero hz, View.ld_unit_zero hz]

theorem pay9_eq : k0_pay9 (F := Ideal) w s a b = k0_pay7 (F := Ideal) w s b a := by
  have hz : (![0, 0, 0] : Fin 3 → Nat) = fun _ => 0 := funext fun a => by fin_cases a <;> rfl
  unfold k0_pay9 r0_0 r0_1 r0_2 r0_3
  rw [View.ld_unit_zero hz, View.ld_unit_zero hz, View.ld_unit_zero hz, View.ld_unit_zero hz]

end

end Cert.ReferenceIdeal.Gen

end
-- ==== Proof.Equation.lean ====
/-
  The equation: at the ideal values the kernel's two result arrays are the reference's, element by element.
-/
module

public import proofs.«01_k».proof.Proof.KernelIdealArrays
public import proofs.«01_k».proof.Proof.KernelValue
public import proofs.«01_k».proof.Proof.ReferenceValue

@[expose] public section

noncomputable section

namespace Cert.Lora

open Idealize.ShloMosaic Cert.ReferenceIdeal.Gen

variable (w : Vec Ideal Cert.ReferenceIdeal.S16x1024x3584 .fp8e4m3) (s : Vec Ideal Cert.ReferenceIdeal.S16x8x28 .f32)
  (a : Vec Ideal Cert.ReferenceIdeal.S16x64x3584 .bf16) (b : Vec Ideal Cert.ReferenceIdeal.S16x1024x64 .bf16)

/-- The kernel's codes are the reference's. -/
theorem codes_eq : Cert.KernelIdeal.Whole.GC (F := Ideal) w s a b = Cert.ReferenceIdeal.Value.G4 (F := Ideal) w s a b := by
  funext y
  obtain ⟨i, P, Q, rfl⟩ : ∃ (i : Fin 16) (P : Fin 1024) (Q : Fin 3584), y = ix3 i P Q :=
    ⟨y 0, y 1, y 2, by funext k; fin_cases k <;> rfl⟩
  have hP : P = at128 (n := 8) ⟨P.val / 128, by omega⟩ ⟨P.val % 128, by omega⟩ :=
    Fin.ext (by show P.val = 128 * (P.val / 128) + P.val % 128; omega)
  have hQ : Q = at128 (n := 28) ⟨Q.val / 128, by omega⟩ ⟨Q.val % 128, by omega⟩ :=
    Fin.ext (by show Q.val = 128 * (Q.val / 128) + Q.val % 128; omega)
  rw [hP, hQ]
  generalize (⟨P.val / 128, _⟩ : Fin 8) = p
  generalize (⟨P.val % 128, _⟩ : Fin 128) = r
  generalize (⟨Q.val / 128, _⟩ : Fin 28) = q
  generalize (⟨Q.val % 128, _⟩ : Fin 128) = c
  have hk := codesV_apply (Cert.KernelIdeal.Whole.matW (F := Ideal) w i) (Cert.KernelIdeal.Whole.matS (F := Ideal) s i)
    (Cert.KernelIdeal.Whole.matA (F := Ideal) a i) (Cert.KernelIdeal.Whole.matB (F := Ideal) b i) p q r c
  rw [ix3_eq_valueIdx] at hk
  unfold Cert.ReferenceIdeal.Value.G4
  rw [pay8_eq, pay9_eq, codes_apply]
  exact hk

/-- The kernel's scales are the reference's. -/
theorem scales_eq : Cert.KernelIdeal.Whole.GS (F := Ideal) w s a b = Cert.ReferenceIdeal.Value.G5 (F := Ideal) w s a b := by
  funext y
  obtain ⟨i, p, q, rfl⟩ : ∃ (i : Fin 16) (p : Fin 8) (q : Fin 28), y = ix3 i p q :=
    ⟨y 0, y 1, y 2, by funext k; fin_cases k <;> rfl⟩
  have hk := scalesV_apply (Cert.KernelIdeal.Whole.matW (F := Ideal) w i) (Cert.KernelIdeal.Whole.matS (F := Ideal) s i)
    (Cert.KernelIdeal.Whole.matA (F := Ideal) a i) (Cert.KernelIdeal.Whole.matB (F := Ideal) b i) p q
  rw [ix3_eq_valueIdx] at hk
  unfold Cert.ReferenceIdeal.Value.G5
  rw [pay8_eq, pay9_eq, scales_apply]
  exact hk

end Cert.Lora

end
-- ==== Proof.lean ====
module

public import proofs.«01_k».proof.Defs
public import proofs.«01_k».proof.Proof.KernelWhole
public import proofs.«01_k».proof.Proof.KernelIdealWhole
public import proofs.«01_k».proof.Proof.Equation
public import proofs.«01_k».proof.Proof.Gen.Kernel
public import proofs.«01_k».proof.Proof.Gen.KernelIdeal
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Launch
public import proofs.«01_k».proof.Proof.Gen.KernelIdeal.Points
public import proofs.«01_k».proof.Proof.Gen.ReferenceIdeal.Frame
public import proofs.«01_k».proof.Proof.Gen.ReferenceIdeal.Value

@[expose] public section

noncomputable section

open Idealize.ShloMosaic in
/-- From equal arguments the kernel's idealization and the reference end with equal codes and equal scales. -/
theorem Cert.Proof.algebraic [hK : Cert.KernelIdeal.Facts] [hR : Cert.ReferenceIdeal.Facts] :
    Cert.algebraic_KernelIdeal_ReferenceIdeal := fun m g m' g' _ hag =>
  ⟨fun c => Cert.KernelIdeal.Whole.GC (F := Ideal) (m (c.tc.loc Cert.KernelIdeal.main_arg0))
      (m (c.tc.loc Cert.KernelIdeal.main_arg1)) (m (c.tc.loc Cert.KernelIdeal.main_arg2))
      (m (c.tc.loc Cert.KernelIdeal.main_arg3)),
    fun c => Cert.KernelIdeal.Whole.GS (F := Ideal) (m (c.tc.loc Cert.KernelIdeal.main_arg0))
      (m (c.tc.loc Cert.KernelIdeal.main_arg1)) (m (c.tc.loc Cert.KernelIdeal.main_arg2))
      (m (c.tc.loc Cert.KernelIdeal.main_arg3)),
    Cert.KernelIdeal.Whole.run m g,
    (θ_run _ _ _).mono (fun r h c => by
      obtain ⟨h0, h1, hargs⟩ := h c
      obtain ⟨e0, e1, e2, e3⟩ := hag c
      refine ⟨?_, ?_, hargs⟩
      · rw [e0, e1, e2, e3] at h0
        exact h0.trans (Cert.Lora.codes_eq _ _ _ _).symm
      · rw [e0, e1, e2, e3] at h1
        exact h1.trans (Cert.Lora.scales_eq _ _ _ _).symm)
      (Cert.ReferenceIdeal.Value.run m' g')⟩

/-- Every run of the kernel, of its idealization and of the reference ends with the arguments as they were and no
    counter raised, the idealization rewrites nothing, and at the ideal values kernel and reference end with equal results. -/
theorem Cert.Proof.claim : Cert.Claim :=
  ⟨Cert.Kernel.Gen.facts, Cert.KernelIdeal.Gen.facts, Cert.ReferenceIdeal.Gen.facts,
    fun m ρ _ => Cert.Kernel.Whole.frame m ρ, fun m ρ _ => Cert.KernelIdeal.Whole.frame m ρ,
    fun m ρ _ => Cert.ReferenceIdeal.Gen.frame m ρ, trivial,
    Cert.Proof.algebraic (hK := Cert.KernelIdeal.Gen.facts) (hR := Cert.ReferenceIdeal.Gen.facts)⟩

end
